-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S2x96x112x112 : Shape := ⟨4, ![2, 96, 112, 112]⟩
abbrev S2x1x224x224 : Shape := ⟨4, ![2, 1, 224, 224]⟩
abbrev S96x96x3x3 : Shape := ⟨4, ![96, 96, 3, 3]⟩
abbrev S96 : Shape := ⟨1, ![96]⟩
abbrev S24x96x1x1 : Shape := ⟨4, ![24, 96, 1, 1]⟩
abbrev S24 : Shape := ⟨1, ![24]⟩
abbrev S24x96x3x3 : Shape := ⟨4, ![24, 96, 3, 3]⟩
abbrev S_ : Shape := ⟨0, ![]⟩

class Facts : Prop where
  bcast_S_S2x1x224x224 : S_.BroadcastsInDim S2x1x224x224 (![] : Fin 0 → Fin S2x1x224x224.rank)
  reducesTo_S2x1x224x224_S_d0_1_2_3 : S2x1x224x224.ReducesTo [0, 1, 2, 3] S_
  h_S_ : 0 < S_.numel
  bcast_S_S2x96x112x112 : S_.BroadcastsInDim S2x96x112x112 (![] : Fin 0 → Fin S2x96x112x112.rank)
  reducesTo_S2x96x112x112_S_d0_1_2_3 : S2x96x112x112.ReducesTo [0, 1, 2, 3] S_
  bcast_S_S24x96x1x1 : S_.BroadcastsInDim S24x96x1x1 (![] : Fin 0 → Fin S24x96x1x1.rank)
  reducesTo_S24x96x1x1_S_d0_1_2_3 : S24x96x1x1.ReducesTo [0, 1, 2, 3] S_
  bcast_S_S24 : S_.BroadcastsInDim S24 (![] : Fin 0 → Fin S24.rank)
  reducesTo_S24_S_d0 : S24.ReducesTo [0] S_
  bcast_S_S24x96x3x3 : S_.BroadcastsInDim S24x96x3x3 (![] : Fin 0 → Fin S24x96x3x3.rank)
  reducesTo_S24x96x3x3_S_d0_1_2_3 : S24x96x3x3.ReducesTo [0, 1, 2, 3] S_
  bcast_S_S96 : S_.BroadcastsInDim S96 (![] : Fin 0 → Fin S96.rank)
  reducesTo_S96_S_d0 : S96.ReducesTo [0] S_

variable [Facts]

def fn_part1 {F : FTy → Type} [FloatOps F] (main_arg6 : FVec F S24 .f32) (main_arg7 : FVec F S24x96x3x3 .f32) (main_arg8 : FVec F S96 .f32) (main_v13 : IVec S_ 1) (main_v16 : IVec S24x96x1x1 1) : IVec S_ 1 :=
  let main_c_5 : IVec S_ 1 := constantI S_ 1 1#1
  let main_v17 : IVec S_ 1 := (fun x v => Host.reduce IntOp.andi x v reducesTo_S24x96x1x1_S_d0_1_2_3 h_S_) main_v16 main_c_5
  let main_v18 : IVec S_ 1 := andi main_v13 main_v17
  let main_v19 : FVec F S24 .f32 := Host.absf main_arg6
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S24x96x3x3 .f32 := Host.absf main_arg7
  let main_cst_8 : FVec F S_ .f32 := constant S_ .f32 0x7F800000#32
  let main_v25 : FVec F S24x96x3x3 .f32 := broadcastInDim S24x96x3x3 ![] bcast_S_S24x96x3x3 main_cst_8
  let main_v26 : IVec S24x96x3x3 1 := cmpf .olt main_v24 main_v25
  let main_c_9 : IVec S_ 1 := constantI S_ 1 1#1
  let main_v27 : IVec S_ 1 := (fun x v => Host.reduce IntOp.andi x v reducesTo_S24x96x3x3_S_d0_1_2_3 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S2x96x112x112 .f32) (main_arg1 : FVec F S2x1x224x224 .f32) (main_arg2 : FVec F S2x1x224x224 .f32) (main_arg3 : FVec F S96x96x3x3 .f32) (main_arg4 : FVec F S96 .f32) (main_arg5 : FVec F S24x96x1x1 .f32) (main_arg6 : FVec F S24 .f32) (main_arg7 : FVec F S24x96x3x3 .f32) (main_arg8 : FVec F S96 .f32) : IVec S_ 1 :=
  let main_cst : FVec F S_ .f32 := constant S_ .f32 0x3F800000#32
  let main_v0 : FVec F S2x1x224x224 .f32 := broadcastInDim S2x1x224x224 ![] bcast_S_S2x1x224x224 main_cst
  let main_v1 : FVec F S2x1x224x224 .f32 := subf main_v0 main_arg1
  let main_v2 : IVec S2x1x224x224 1 := cmpf .oeq main_arg2 main_v1
  let main_c : IVec S_ 1 := constantI S_ 1 1#1
  let main_v3 : IVec S_ 1 := (fun x v => Host.reduce IntOp.andi x v reducesTo_S2x1x224x224_S_d0_1_2_3 h_S_) main_v2 main_c
  let main_v4 : FVec F S2x96x112x112 .f32 := Host.absf main_arg0
  let main_cst_0 : FVec F S_ .f32 := constant S_ .f32 0x7F800000#32
  let main_v5 : FVec F S2x96x112x112 .f32 := broadcastInDim S2x96x112x112 ![] bcast_S_S2x96x112x112 main_cst_0
  let main_v6 : IVec S2x96x112x112 1 := cmpf .olt main_v4 main_v5
  let main_c_1 : IVec S_ 1 := constantI S_ 1 1#1
  let main_v7 : IVec S_ 1 := (fun x v => Host.reduce IntOp.andi x v reducesTo_S2x96x112x112_S_d0_1_2_3 h_S_) main_v6 main_c_1
  let main_v8 : IVec S_ 1 := andi main_v3 main_v7
  let main_v9 : FVec F S2x1x224x224 .f32 := Host.absf main_arg1
  let main_cst_2 : FVec F S_ .f32 := constant S_ .f32 0x7F800000#32
  let main_v10 : FVec F S2x1x224x224 .f32 := broadcastInDim S2x1x224x224 ![] bcast_S_S2x1x224x224 main_cst_2
  let main_v11 : IVec S2x1x224x224 1 := cmpf .olt main_v9 main_v10
  let main_c_3 : IVec S_ 1 := constantI S_ 1 1#1
  let main_v12 : IVec S_ 1 := (fun x v => Host.reduce IntOp.andi x v reducesTo_S2x1x224x224_S_d0_1_2_3 h_S_) main_v11 main_c_3
  let main_v13 : IVec S_ 1 := andi main_v8 main_v12
  let main_v14 : FVec F S24x96x1x1 .f32 := Host.absf main_arg5
  let main_cst_4 : FVec F S_ .f32 := constant S_ .f32 0x7F800000#32
  let main_v15 : FVec F S24x96x1x1 .f32 := broadcastInDim S24x96x1x1 ![] bcast_S_S24x96x1x1 main_cst_4
  let main_v16 : IVec S24x96x1x1 1 := cmpf .olt main_v14 main_v15
  fn_part1 (F := F) main_arg6 main_arg7 main_arg8 main_v13 main_v16
-- ==== Kernel.lean ====
abbrev S2x96x112x112 : Shape := ⟨4, ![2, 96, 112, 112]⟩
abbrev S2x1x224x224 : Shape := ⟨4, ![2, 1, 224, 224]⟩
abbrev S96x96x3x3 : Shape := ⟨4, ![96, 96, 3, 3]⟩
abbrev S96 : Shape := ⟨1, ![96]⟩
abbrev S24x96x1x1 : Shape := ⟨4, ![24, 96, 1, 1]⟩
abbrev S24 : Shape := ⟨1, ![24]⟩
abbrev S24x96x3x3 : Shape := ⟨4, ![24, 96, 3, 3]⟩
abbrev S3x3 : Shape := ⟨2, ![3, 3]⟩
abbrev S24x96 : Shape := ⟨2, ![24, 96]⟩
abbrev S96x3x3 : Shape := ⟨3, ![96, 3, 3]⟩
abbrev S96x1x1 : Shape := ⟨3, ![96, 1, 1]⟩
abbrev S1x3x3 : Shape := ⟨3, ![1, 3, 3]⟩
abbrev S96x192x3x3 : Shape := ⟨4, ![96, 192, 3, 3]⟩
abbrev S192x3x3 : Shape := ⟨3, ![192, 3, 3]⟩
abbrev S1x192x3x3 : Shape := ⟨4, ![1, 192, 3, 3]⟩
abbrev S97x192x3x3 : Shape := ⟨4, ![97, 192, 3, 3]⟩
abbrev S97x2x96x3x3 : Shape := ⟨5, ![97, 2, 96, 3, 3]⟩
abbrev S_ : Shape := ⟨0, ![]⟩
abbrev S97x2x128x3x3 : Shape := ⟨5, ![97, 2, 128, 3, 3]⟩
abbrev S97x256x3x3 : Shape := ⟨4, ![97, 256, 3, 3]⟩
abbrev S97x256x1x1 : Shape := ⟨4, ![97, 256, 1, 1]⟩
abbrev S97x256 : Shape := ⟨2, ![97, 256]⟩
abbrev S97x1024 : Shape := ⟨2, ![97, 1024]⟩
abbrev S97x512 : Shape := ⟨2, ![97, 512]⟩
abbrev S2x1x112x112 : Shape := ⟨4, ![2, 1, 112, 112]⟩
abbrev S2x97x112x112 : Shape := ⟨4, ![2, 97, 112, 112]⟩
abbrev S2x97x113x113 : Shape := ⟨4, ![2, 97, 113, 113]⟩
abbrev S2x113x113x97 : Shape := ⟨4, ![2, 113, 113, 97]⟩
abbrev S2x112x2x112x2 : Shape := ⟨5, ![2, 112, 2, 112, 2]⟩
abbrev S2x2x2x112x112 : Shape := ⟨5, ![2, 2, 2, 112, 112]⟩
abbrev S2x224x224x96 : Shape := ⟨4, ![2, 224, 224, 96]⟩
abbrev S1x113x113x97 : Shape := ⟨4, ![1, 113, 113, 97]⟩
abbrev S1x2x2x16x112 : Shape := ⟨5, ![1, 2, 2, 16, 112]⟩
abbrev S1x32x224x96 : Shape := ⟨4, ![1, 32, 224, 96]⟩
abbrev S1x16x112x97 : Shape := ⟨4, ![1, 16, 112, 97]⟩
abbrev S16x112x97 : Shape := ⟨3, ![16, 112, 97]⟩
abbrev S1792x97 : Shape := ⟨2, ![1792, 97]⟩
abbrev S1792x1024 : Shape := ⟨2, ![1792, 1024]⟩
abbrev S1792x512 : Shape := ⟨2, ![1792, 512]⟩
abbrev S1792x256 : Shape := ⟨2, ![1792, 256]⟩
abbrev S1x1x1x16x112 : Shape := ⟨5, ![1, 1, 1, 16, 112]⟩
abbrev S16x112 : Shape := ⟨2, ![16, 112]⟩
abbrev S16x112x1 : Shape := ⟨3, ![16, 112, 1]⟩
abbrev S1792x96 : Shape := ⟨2, ![1792, 96]⟩
abbrev S16x112x96 : Shape := ⟨3, ![16, 112, 96]⟩
abbrev S1x16x112x96 : Shape := ⟨4, ![1, 16, 112, 96]⟩
abbrev S2x96x224x224 : Shape := ⟨4, ![2, 96, 224, 224]⟩

abbrev nBuf : Space → Nat
  | .hbm => 70
  | .vmem => 10
  | .smem => 0
  | _ => 0

abbrev bufTy : (tb : Table) → Fin (tcTables nBuf tb) → BufTy
  | .hbm, ⟨0, _⟩ => ⟨S2x96x112x112, .f32⟩
  | .hbm, ⟨1, _⟩ => ⟨S2x1x224x224, .f32⟩
  | .hbm, ⟨2, _⟩ => ⟨S2x1x224x224, .f32⟩
  | .hbm, ⟨3, _⟩ => ⟨S96x96x3x3, .f32⟩
  | .hbm, ⟨4, _⟩ => ⟨S96, .f32⟩
  | .hbm, ⟨5, _⟩ => ⟨S24x96x1x1, .f32⟩
  | .hbm, ⟨6, _⟩ => ⟨S24, .f32⟩
  | .hbm, ⟨7, _⟩ => ⟨S24x96x3x3, .f32⟩
  | .hbm, ⟨8, _⟩ => ⟨S96, .f32⟩
  | .hbm, ⟨9, _⟩ => ⟨S3x3, .f32⟩
  | .hbm, ⟨10, _⟩ => ⟨S24x96, .f32⟩
  | .hbm, ⟨11, _⟩ => ⟨S96x96x3x3, .f32⟩
  | .hbm, ⟨12, _⟩ => ⟨S96x3x3, .f32⟩
  | .hbm, ⟨13, _⟩ => ⟨S96x1x1, .f32⟩
  | .hbm, ⟨14, _⟩ => ⟨S1x3x3, .f32⟩
  | .hbm, ⟨15, _⟩ => ⟨S96x3x3, .f32⟩
  | .hbm, ⟨16, _⟩ => ⟨S96x3x3, .f32⟩
  | .hbm, ⟨17, _⟩ => ⟨S96x3x3, .f32⟩
  | .hbm, ⟨18, _⟩ => ⟨S96x3x3, .f32⟩
  | .hbm, ⟨19, _⟩ => ⟨S96x1x1, .f32⟩
  | .hbm, ⟨20, _⟩ => ⟨S1x3x3, .f32⟩
  | .hbm, ⟨21, _⟩ => ⟨S96x3x3, .f32⟩
  | .hbm, ⟨22, _⟩ => ⟨S96x3x3, .f32⟩
  | .hbm, ⟨23, _⟩ => ⟨S96x3x3, .f32⟩
  | .hbm, ⟨24, _⟩ => ⟨S96x96x3x3, .f32⟩
  | .hbm, ⟨25, _⟩ => ⟨S96x192x3x3, .f32⟩
  | .hbm, ⟨26, _⟩ => ⟨S96x3x3, .f32⟩
  | .hbm, ⟨27, _⟩ => ⟨S192x3x3, .f32⟩
  | .hbm, ⟨28, _⟩ => ⟨S1x192x3x3, .f32⟩
  | .hbm, ⟨29, _⟩ => ⟨S97x192x3x3, .f32⟩
  | .hbm, ⟨30, _⟩ => ⟨S97x2x96x3x3, .f32⟩
  | .hbm, ⟨31, _⟩ => ⟨S_, .i32⟩
  | .hbm, ⟨32, _⟩ => ⟨S_, .f32⟩
  | .hbm, ⟨33, _⟩ => ⟨S97x2x128x3x3, .f32⟩
  | .hbm, ⟨34, _⟩ => ⟨S97x256x3x3, .f32⟩
  | .hbm, ⟨35, _⟩ => ⟨S97x256x3x3, .bf16⟩
  | .hbm, ⟨36, _⟩ => ⟨S97x256x1x1, .bf16⟩
  | .hbm, ⟨37, _⟩ => ⟨S97x256, .bf16⟩
  | .hbm, ⟨38, _⟩ => ⟨S97x256x1x1, .bf16⟩
  | .hbm, ⟨39, _⟩ => ⟨S97x256, .bf16⟩
  | .hbm, ⟨40, _⟩ => ⟨S97x256x1x1, .bf16⟩
  | .hbm, ⟨41, _⟩ => ⟨S97x256, .bf16⟩
  | .hbm, ⟨42, _⟩ => ⟨S97x256x1x1, .bf16⟩
  | .hbm, ⟨43, _⟩ => ⟨S97x256, .bf16⟩
  | .hbm, ⟨44, _⟩ => ⟨S97x1024, .bf16⟩
  | .hbm, ⟨45, _⟩ => ⟨S97x256x1x1, .bf16⟩
  | .hbm, ⟨46, _⟩ => ⟨S97x256, .bf16⟩
  | .hbm, ⟨47, _⟩ => ⟨S97x256x1x1, .bf16⟩
  | .hbm, ⟨48, _⟩ => ⟨S97x256, .bf16⟩
  | .hbm, ⟨49, _⟩ => ⟨S97x512, .bf16⟩
  | .hbm, ⟨50, _⟩ => ⟨S97x256x1x1, .bf16⟩
  | .hbm, ⟨51, _⟩ => ⟨S97x256, .bf16⟩
  | .hbm, ⟨52, _⟩ => ⟨S97x256x1x1, .bf16⟩
  | .hbm, ⟨53, _⟩ => ⟨S97x256, .bf16⟩
  | .hbm, ⟨54, _⟩ => ⟨S97x512, .bf16⟩
  | .hbm, ⟨55, _⟩ => ⟨S97x256x1x1, .bf16⟩
  | .hbm, ⟨56, _⟩ => ⟨S97x256, .bf16⟩
  | .hbm, ⟨57, _⟩ => ⟨S_, .f32⟩
  | .hbm, ⟨58, _⟩ => ⟨S2x1x112x112, .f32⟩
  | .hbm, ⟨59, _⟩ => ⟨S2x97x112x112, .f32⟩
  | .hbm, ⟨60, _⟩ => ⟨S_, .i32⟩
  | .hbm, ⟨61, _⟩ => ⟨S_, .f32⟩
  | .hbm, ⟨62, _⟩ => ⟨S2x97x113x113, .f32⟩
  | .hbm, ⟨63, _⟩ => ⟨S2x97x113x113, .bf16⟩
  | .hbm, ⟨64, _⟩ => ⟨S2x113x113x97, .bf16⟩
  | .hbm, ⟨65, _⟩ => ⟨S2x1x224x224, .bf16⟩
  | .hbm, ⟨66, _⟩ => ⟨S2x112x2x112x2, .bf16⟩
  | .hbm, ⟨67, _⟩ => ⟨S2x2x2x112x112, .bf16⟩
  | .hbm, ⟨68, _⟩ => ⟨S2x224x224x96, .f32⟩
  | .hbm, ⟨69, _⟩ => ⟨S2x96x224x224, .f32⟩
  | .local _ .vmem, ⟨0, _⟩ => ⟨S1x113x113x97, .bf16⟩
  | .local _ .vmem, ⟨1, _⟩ => ⟨S1x113x113x97, .bf16⟩
  | .local _ .vmem, ⟨2, _⟩ => ⟨S1x2x2x16x112, .bf16⟩
  | .local _ .vmem, ⟨3, _⟩ => ⟨S1x2x2x16x112, .bf16⟩
  | .local _ .vmem, ⟨4, _⟩ => ⟨S97x1024, .bf16⟩
  | .local _ .vmem, ⟨5, _⟩ => ⟨S97x512, .bf16⟩
  | .local _ .vmem, ⟨6, _⟩ => ⟨S97x512, .bf16⟩
  | .local _ .vmem, ⟨7, _⟩ => ⟨S97x256, .bf16⟩
  | .local _ .vmem, ⟨8, _⟩ => ⟨S1x32x224x96, .f32⟩
  | .local _ .vmem, ⟨9, _⟩ => ⟨S1x32x224x96, .f32⟩
  | _, _ => ⟨S2x96x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_c_1 : Ref sig .tc := ⟨.hbm, 60, rfl⟩
abbrev main_call1_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 7], ![false, false]⟩

def k0_off1 (i : grid0.Coords) (c0_i32 : BitVec 32) : Fin 4 → Nat :=
  let c0 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let v2 : Index := Scalar.indexCast v1
  let c0_0 : Index := 0#32
  let c0_1 : Index := 0#32
  ![0, v2.toNat, 0, 0]
def k0_off2 (i : grid0.Coords) (c0_i32_4 : BitVec 32) : Fin 4 → Nat :=
  let c0_5 : Index := 0#32
  let arg1 : BitVec 32 := BitVec.ofNat 32 (i 1).val
  let c16_i32 : BitVec 32 := 16#32
  let v0 : BitVec 32 := Scalar.muli arg1 c16_i32
  let v9 : BitVec 32 := Scalar.addi v0 c0_i32_4
  let v10 : Index := Scalar.indexCast v9
  let c1 : Index := 1#32
  let c0_6 : Index := 0#32
  ![0, v10.toNat, 1, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x113x113x97 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x2x16x112 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S97x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S97x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S97x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S97x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x224x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x96x112x112 : Shape := ⟨4, ![2, 96, 112, 112]⟩
abbrev S2x1x224x224 : Shape := ⟨4, ![2, 1, 224, 224]⟩
abbrev S96x96x3x3 : Shape := ⟨4, ![96, 96, 3, 3]⟩
abbrev S96 : Shape := ⟨1, ![96]⟩
abbrev S24x96x1x1 : Shape := ⟨4, ![24, 96, 1, 1]⟩
abbrev S24 : Shape := ⟨1, ![24]⟩
abbrev S24x96x3x3 : Shape := ⟨4, ![24, 96, 3, 3]⟩
abbrev S_ : Shape := ⟨0, ![]⟩
abbrev S2x96x226x226 : Shape := ⟨4, ![2, 96, 226, 226]⟩
abbrev S2x96x224x224 : Shape := ⟨4, ![2, 96, 224, 224]⟩
abbrev S96x96x1x1 : Shape := ⟨4, ![96, 96, 1, 1]⟩
abbrev S96x96 : Shape := ⟨2, ![96, 96]⟩
abbrev S96x2x224x224 : Shape := ⟨4, ![96, 2, 224, 224]⟩
abbrev S1x96x1x1 : Shape := ⟨4, ![1, 96, 1, 1]⟩
abbrev S24x96 : Shape := ⟨2, ![24, 96]⟩
abbrev S24x2x112x112 : Shape := ⟨4, ![24, 2, 112, 112]⟩
abbrev S2x24x112x112 : Shape := ⟨4, ![2, 24, 112, 112]⟩
abbrev S1x24x1x1 : Shape := ⟨4, ![1, 24, 1, 1]⟩
abbrev S2x24x226x226 : Shape := ⟨4, ![2, 24, 226, 226]⟩
abbrev S2x24x224x224 : Shape := ⟨4, ![2, 24, 224, 224]⟩

abbrev nBuf : Space → Nat
  | .hbm => 138
  | .vmem => 0
  | .smem => 0
  | _ => 0

abbrev hbmTy0_0 (i : Nat) : BufTy := match i % 128 with
  | 0 => ⟨S2x96x112x112, .f32⟩
  | 1 => ⟨S2x1x224x224, .f32⟩
  | 2 => ⟨S2x1x224x224, .f32⟩
  | 3 => ⟨S96x96x3x3, .f32⟩
  | 4 => ⟨S96, .f32⟩
  | 5 => ⟨S24x96x1x1, .f32⟩
  | 6 => ⟨S24, .f32⟩
  | 7 => ⟨S24x96x3x3, .f32⟩
  | 8 => ⟨S96, .f32⟩
  | 9 => ⟨S_, .f32⟩
  | 10 => ⟨S2x96x226x226, .f32⟩
  | 11 => ⟨S96x96x3x3, .f32⟩
  | 12 => ⟨S2x96x224x224, .f32⟩
  | 13 => ⟨S96x96x1x1, .f32⟩
  | 14 => ⟨S96x96, .f32⟩
  | 15 => ⟨S96x2x224x224, .f32⟩
  | 16 => ⟨S2x96x224x224, .f32⟩
  | 17 => ⟨S2x96x224x224, .f32⟩
  | 18 => ⟨S96x96x1x1, .f32⟩
  | 19 => ⟨S96x96, .f32⟩
  | 20 => ⟨S96x2x224x224, .f32⟩
  | 21 => ⟨S2x96x224x224, .f32⟩
  | 22 => ⟨S2x96x224x224, .f32⟩
  | 23 => ⟨S2x96x224x224, .f32⟩
  | 24 => ⟨S96x96x1x1, .f32⟩
  | 25 => ⟨S96x96, .f32⟩
  | 26 => ⟨S96x2x224x224, .f32⟩
  | 27 => ⟨S2x96x224x224, .f32⟩
  | 28 => ⟨S2x96x224x224, .f32⟩
  | 29 => ⟨S2x96x224x224, .f32⟩
  | 30 => ⟨S96x96x1x1, .f32⟩
  | 31 => ⟨S96x96, .f32⟩
  | 32 => ⟨S96x2x224x224, .f32⟩
  | 33 => ⟨S2x96x224x224, .f32⟩
  | 34 => ⟨S2x96x224x224, .f32⟩
  | 35 => ⟨S2x96x224x224, .f32⟩
  | 36 => ⟨S96x96x1x1, .f32⟩
  | 37 => ⟨S96x96, .f32⟩
  | 38 => ⟨S96x2x224x224, .f32⟩
  | 39 => ⟨S2x96x224x224, .f32⟩
  | 40 => ⟨S2x96x224x224, .f32⟩
  | 41 => ⟨S2x96x224x224, .f32⟩
  | 42 => ⟨S96x96x1x1, .f32⟩
  | 43 => ⟨S96x96, .f32⟩
  | 44 => ⟨S96x2x224x224, .f32⟩
  | 45 => ⟨S2x96x224x224, .f32⟩
  | 46 => ⟨S2x96x224x224, .f32⟩
  | 47 => ⟨S2x96x224x224, .f32⟩
  | 48 => ⟨S96x96x1x1, .f32⟩
  | 49 => ⟨S96x96, .f32⟩
  | 50 => ⟨S96x2x224x224, .f32⟩
  | 51 => ⟨S2x96x224x224, .f32⟩
  | 52 => ⟨S2x96x224x224, .f32⟩
  | 53 => ⟨S2x96x224x224, .f32⟩
  | 54 => ⟨S96x96x1x1, .f32⟩
  | 55 => ⟨S96x96, .f32⟩
  | 56 => ⟨S96x2x224x224, .f32⟩
  | 57 => ⟨S2x96x224x224, .f32⟩
  | 58 => ⟨S2x96x224x224, .f32⟩
  | 59 => ⟨S2x96x224x224, .f32⟩
  | 60 => ⟨S96x96x1x1, .f32⟩
  | 61 => ⟨S96x96, .f32⟩
  | 62 => ⟨S96x2x224x224, .f32⟩
  | 63 => ⟨S2x96x224x224, .f32⟩
  | 64 => ⟨S2x96x224x224, .f32⟩
  | 65 => ⟨S1x96x1x1, .f32⟩
  | 66 => ⟨S2x96x224x224, .f32⟩
  | 67 => ⟨S2x96x224x224, .f32⟩
  | 68 => ⟨S2x96x224x224, .f32⟩
  | 69 => ⟨S2x96x224x224, .f32⟩
  | 70 => ⟨S24x96, .f32⟩
  | 71 => ⟨S24x2x112x112, .f32⟩
  | 72 => ⟨S2x24x112x112, .f32⟩
  | 73 => ⟨S1x24x1x1, .f32⟩
  | 74 => ⟨S2x24x112x112, .f32⟩
  | 75 => ⟨S2x24x112x112, .f32⟩
  | 76 => ⟨S_, .f32⟩
  | 77 => ⟨S2x24x226x226, .f32⟩
  | 78 => ⟨S24x96x3x3, .f32⟩
  | 79 => ⟨S2x24x224x224, .f32⟩
  | 80 => ⟨S24x96x1x1, .f32⟩
  | 81 => ⟨S24x96, .f32⟩
  | 82 => ⟨S96x2x224x224, .f32⟩
  | 83 => ⟨S2x96x224x224, .f32⟩
  | 84 => ⟨S2x24x224x224, .f32⟩
  | 85 => ⟨S24x96x1x1, .f32⟩
  | 86 => ⟨S24x96, .f32⟩
  | 87 => ⟨S96x2x224x224, .f32⟩
  | 88 => ⟨S2x96x224x224, .f32⟩
  | 89 => ⟨S2x96x224x224, .f32⟩
  | 90 => ⟨S2x24x224x224, .f32⟩
  | 91 => ⟨S24x96x1x1, .f32⟩
  | 92 => ⟨S24x96, .f32⟩
  | 93 => ⟨S96x2x224x224, .f32⟩
  | 94 => ⟨S2x96x224x224, .f32⟩
  | 95 => ⟨S2x96x224x224, .f32⟩
  | 96 => ⟨S2x24x224x224, .f32⟩
  | 97 => ⟨S24x96x1x1, .f32⟩
  | 98 => ⟨S24x96, .f32⟩
  | 99 => ⟨S96x2x224x224, .f32⟩
  | 100 => ⟨S2x96x224x224, .f32⟩
  | 101 => ⟨S2x96x224x224, .f32⟩
  | 102 => ⟨S2x24x224x224, .f32⟩
  | 103 => ⟨S24x96x1x1, .f32⟩
  | 104 => ⟨S24x96, .f32⟩
  | 105 => ⟨S96x2x224x224, .f32⟩
  | 106 => ⟨S2x96x224x224, .f32⟩
  | 107 => ⟨S2x96x224x224, .f32⟩
  | 108 => ⟨S2x24x224x224, .f32⟩
  | 109 => ⟨S24x96x1x1, .f32⟩
  | 110 => ⟨S24x96, .f32⟩
  | 111 => ⟨S96x2x224x224, .f32⟩
  | 112 => ⟨S2x96x224x224, .f32⟩
  | 113 => ⟨S2x96x224x224, .f32⟩
  | 114 => ⟨S2x24x224x224, .f32⟩
  | 115 => ⟨S24x96x1x1, .f32⟩
  | 116 => ⟨S24x96, .f32⟩
  | 117 => ⟨S96x2x224x224, .f32⟩
  | 118 => ⟨S2x96x224x224, .f32⟩
  | 119 => ⟨S2x96x224x224, .f32⟩
  | 120 => ⟨S2x24x224x224, .f32⟩
  | 121 => ⟨S24x96x1x1, .f32⟩
  | 122 => ⟨S24x96, .f32⟩
  | 123 => ⟨S96x2x224x224, .f32⟩
  | 124 => ⟨S2x96x224x224, .f32⟩
  | 125 => ⟨S2x96x224x224, .f32⟩
  | 126 => ⟨S2x24x224x224, .f32⟩
  | 127 => ⟨S24x96x1x1, .f32⟩
  | _ => ⟨S2x96x112x112, .f32⟩

abbrev hbmTy0_1 (i : Nat) : BufTy := match i % 128 with
  | 0 => ⟨S24x96, .f32⟩
  | 1 => ⟨S96x2x224x224, .f32⟩
  | 2 => ⟨S2x96x224x224, .f32⟩
  | 3 => ⟨S2x96x224x224, .f32⟩
  | 4 => ⟨S1x96x1x1, .f32⟩
  | 5 => ⟨S2x96x224x224, .f32⟩
  | 6 => ⟨S2x96x224x224, .f32⟩
  | 7 => ⟨S2x96x224x224, .f32⟩
  | 8 => ⟨S2x96x224x224, .f32⟩
  | 9 => ⟨S2x96x224x224, .f32⟩
  | _ => ⟨S2x96x112x112, .f32⟩

abbrev hbmTy (i : Nat) : BufTy := match i / 128 with
  | 0 => hbmTy0_0 i
  | 1 => hbmTy0_1 i
  | _ => ⟨S2x96x112x112, .f32⟩

abbrev bufTy : (tb : Table) → Fin (tcTables nBuf tb) → BufTy
  | .hbm, ⟨i, _⟩ => hbmTy i
  | _, _ => ⟨S2x96x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_0 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩

abbrev nD : Nat := 1
abbrev τ : Topo := Topo.v7x

variable {F : FTy → Type} [FloatOps F]
-- ==== Proof.Body.KernelIdeal.lean ====
/- The frame of `Cert.KernelIdeal`: what the kernel body leaves in the output block, the body's triple, the pipeline's
   proof data and the run of @main. The output block is stored as four interleaved pieces, one for each parity of the
   row and of the column. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The sixteen rows of the padded image that grid point `i` works on, shifted down by `r` rows, -/
abbrev rx0 (i : grid0.Coords) (r : Fin 2) : Rect S1x113x113x97 :=
  Rect.unit (s := S1x113x113x97) (k0_off1 i (BitVec.ofNat 32 r.val)) S1x16x112x97.size (k0_off1_inb i r)
/-- and the same rows shifted right by one column. -/
abbrev rx1 (i : grid0.Coords) (r : Fin 2) : Rect S1x113x113x97 :=
  Rect.unit (s := S1x113x113x97) (k0_off2 i (BitVec.ofNat 32 r.val)) S1x16x112x97.size (k0_off2_inb i r)
abbrev rg00 : Rect S97x1024 := Rect.unit (s := S97x1024) ![0, 0] S97x1024.size inb_S97x1024_S97x1024_0_0
abbrev rg01 : Rect S97x512 := Rect.unit (s := S97x512) ![0, 0] S97x512.size inb_S97x512_S97x512_0_0
abbrev rg11 : Rect S97x256 := Rect.unit (s := S97x256) ![0, 0] S97x256.size inb_S97x256_S97x256_0_0
/-- The mask's plane of one parity of the row and of the column. -/
abbrev rm00 : Rect S1x2x2x16x112 := Rect.unit (s := S1x2x2x16x112) ![0, 0, 0, 0, 0] S1x1x1x16x112.size inb_S1x2x2x16x112_S1x1x1x16x112_0_0_0_0_0
abbrev rm01 : Rect S1x2x2x16x112 := Rect.unit (s := S1x2x2x16x112) ![0, 0, 1, 0, 0] S1x1x1x16x112.size inb_S1x2x2x16x112_S1x1x1x16x112_0_0_1_0_0
abbrev rm10 : Rect S1x2x2x16x112 := Rect.unit (s := S1x2x2x16x112) ![0, 1, 0, 0, 0] S1x1x1x16x112.size inb_S1x2x2x16x112_S1x1x1x16x112_0_1_0_0_0
abbrev rm11 : Rect S1x2x2x16x112 := Rect.unit (s := S1x2x2x16x112) ![0, 1, 1, 0, 0] S1x1x1x16x112.size inb_S1x2x2x16x112_S1x1x1x16x112_0_1_1_0_0
/-- Every second row and every second column of the output block, from row `a` and column `b`. -/
abbrev ro00 : Rect S1x32x224x96 := ⟨(⟨![0, 0, 0, 0], S1x16x112x96.size, ![1, 2, 2, 1], inb_S1x32x224x96_S1x16x112x96_0_0_0_0_s_1_2_2_1⟩ : LoadRect S1x32x224x96), spos_1_2_2_1⟩
abbrev ro01 : Rect S1x32x224x96 := ⟨(⟨![0, 0, 1, 0], S1x16x112x96.size, ![1, 2, 2, 1], inb_S1x32x224x96_S1x16x112x96_0_0_1_0_s_1_2_2_1⟩ : LoadRect S1x32x224x96), spos_1_2_2_1⟩
abbrev ro10 : Rect S1x32x224x96 := ⟨(⟨![0, 1, 0, 0], S1x16x112x96.size, ![1, 2, 2, 1], inb_S1x32x224x96_S1x16x112x96_0_1_0_0_s_1_2_2_1⟩ : LoadRect S1x32x224x96), spos_1_2_2_1⟩
abbrev ro11 : Rect S1x32x224x96 := ⟨(⟨![0, 1, 1, 0], S1x16x112x96.size, ![1, 2, 2, 1], inb_S1x32x224x96_S1x16x112x96_0_1_1_0_s_1_2_2_1⟩ : LoadRect S1x32x224x96), spos_1_2_2_1⟩

/-! ## What the body leaves in the output block -/

/-- The output block after the body at grid point `i`, from the input blocks: its four stores, last first. -/
def out0_6 (i : grid0.Coords) (x0 : Vec F S1x113x113x97 .bf16) (x1 : Vec F S1x2x2x16x112 .bf16) (x2 : Vec F S97x1024 .bf16) (x3 : Vec F S97x512 .bf16) (x4 : Vec F S97x512 .bf16) (x5 : Vec F S97x256 .bf16) : Vec F S1x32x224x96 .f32 :=
  View.canon [
    ⟨ro11, k0_pay3 (k0_pay9 (k0_pay4 (View.ld x0 (rx0 i 0)) (View.ld x2 rg00)) (k0_pay5 (View.ld x0 (rx1 i 0)) (View.ld x3 rg01)) (k0_pay6 (View.ld x0 (rx0 i 1)) (View.ld x4 rg01)) (k0_pay7 (View.ld x0 (rx1 i 1))) (View.ld x5 rg11)) (View.ld x1 rm11)⟩,
    ⟨ro10, k0_pay2 (k0_pay8 (k0_pay4 (View.ld x0 (rx0 i 0)) (View.ld x2 rg00)) (k0_pay6 (View.ld x0 (rx0 i 1)) (View.ld x4 rg01))) (View.ld x1 rm10)⟩,
    ⟨ro01, k0_pay1 (k0_pay11 (k0_pay4 (View.ld x0 (rx0 i 0)) (View.ld x2 rg00)) (k0_pay5 (View.ld x0 (rx1 i 0)) (View.ld x3 rg01)) (View.ld x1 rm01))⟩,
    ⟨ro00, k0_pay10 (k0_pay4 (View.ld x0 (rx0 i 0)) (View.ld x2 rg00)) (View.ld x1 rm00)⟩]

/-- An index of the output block lies in the rectangle of its row's and column's parities. -/
theorem mem_ro (y : S1x32x224x96.Idx) (a b : ℕ) (ha : (y 1).val % 2 = a) (hb : (y 2).val % 2 = b) (r : Rect S1x32x224x96)
    (ho : r.off = ![0, a, b, 0]) (hs : r.size = S1x16x112x96.size) (ht : r.stride = ![1, 2, 2, 1]) : y ∈ r.set := by
  have h0 : (y 0).val < 1 := (y 0).isLt
  have h1 : (y 1).val < 32 := (y 1).isLt
  have h2 : (y 2).val < 224 := (y 2).isLt
  have h3 : (y 3).val < 96 := (y 3).isLt
  refine r.mem_set.mpr fun ax => ?_
  rw [ho, hs, ht]
  match ax with
  | ⟨0, _⟩ => exact ⟨(y 0).val, h0, by show (y 0).val = 0 + 1 * (y 0).val; omega⟩
  | ⟨1, _⟩ => exact ⟨(y 1).val / 2, by show _ < 16; omega, by show (y 1).val = a + 2 * ((y 1).val / 2); omega⟩
  | ⟨2, _⟩ => exact ⟨(y 2).val / 2, by show _ < 112; omega, by show (y 2).val = b + 2 * ((y 2).val / 2); omega⟩
  | ⟨3, _⟩ => exact ⟨(y 3).val, h3, by show (y 3).val = 0 + 1 * (y 3).val; omega⟩

/-- The four stores cover the output block. -/
theorem cover0_6 (p0 p1 p2 p3 : Vec F S1x16x112x96 .f32) (y : S1x32x224x96.Idx) :
    ∃ pc ∈ ([⟨ro11, p0⟩, ⟨ro10, p1⟩, ⟨ro01, p2⟩, ⟨ro00, p3⟩] : List (View.Piece (Elt F) S1x32x224x96 .f32)), y ∈ pc.1.set := by
  rcases Nat.mod_two_eq_zero_or_one (y 1).val with ha | ha <;> rcases Nat.mod_two_eq_zero_or_one (y 2).val with hb | hb
  · exact ⟨⟨ro00, p3⟩, by simp, mem_ro y 0 0 ha hb ro00 rfl rfl rfl⟩
  · exact ⟨⟨ro01, p2⟩, by simp, mem_ro y 0 1 ha hb ro01 rfl rfl rfl⟩
  · exact ⟨⟨ro10, p1⟩, by simp, mem_ro y 1 0 ha hb ro10 rfl rfl rfl⟩
  · exact ⟨⟨ro11, p0⟩, by simp, mem_ro y 1 1 ha hb ro11 rfl rfl rfl⟩

/-! ## The body's triple -/

set_option maxHeartbeats 1000000 in
/-- The body on whole staging buffers, the inputs' at the contents `xW` and the output's at anything, ends with the
    inputs' as they were and the output's at `out0_6` of the inputs. -/
theorem sound_kernel (c : Dev nD) (E : Set ℕ) (i : grid0.Coords) (arg2 : Memref sig .tc .vmem S1x113x113x97 .bf16) (harg2 : arg2.IsWhole) (arg3 : Memref sig .tc .vmem S1x2x2x16x112 .bf16) (harg3 : arg3.IsWhole) (arg4 : Memref sig .tc .vmem S97x1024 .bf16) (harg4 : arg4.IsWhole) (arg5 : Memref sig .tc .vmem S97x512 .bf16) (harg5 : arg5.IsWhole) (arg6 : Memref sig .tc .vmem S97x512 .bf16) (harg6 : arg6.IsWhole) (arg7 : Memref sig .tc .vmem S97x256 .bf16) (harg7 : arg7.IsWhole) (arg8 : Memref sig .tc .vmem S1x32x224x96 .f32) (harg8 : arg8.IsWhole)
    (x0 : Vec F S1x113x113x97 .bf16) (x1 : Vec F S1x2x2x16x112 .bf16) (x2 : Vec F S97x1024 .bf16) (x3 : Vec F S97x512 .bf16) (x4 : Vec F S97x512 .bf16) (x5 : Vec F S97x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 i x0 x1 x2 x3 x4 x5)) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _ _ _ _)

/-! ## The pipeline's proof data -/

/-- The arrays as the region finds them; after the body at point `t` each input's buffer at its block and the
    output's at `out0_6` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: each input's buffer holds its block, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of @main ends, each of the pipeline's arrays at what the proof data say, every other buffer as the
    host's last line leaves it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame claim: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Body

end
-- ==== Proof.Frames.lean ====
/- The three frames, as the certificate states them: the two kernels' from their bodies' triples, the reference's from
   its operations. -/
module

public import proofs.«01_k».proof.Defs
public import proofs.«01_k».proof.Proof.Body.Kernel
public import proofs.«01_k».proof.Proof.Body.KernelIdeal
public import proofs.«01_k».proof.Proof.Gen.ReferenceIdeal
public import Idealize.ShloMosaic.Lib.Claim

@[expose] public section

set_option maxRecDepth 16384

noncomputable section

namespace Cert.Proof

open Idealize.ShloMosaic Idealize.SL.Sem

theorem frame_Kernel : Cert.quiescent_Kernel := fun m g _ => Cert.Kernel.Body.frame m g

theorem frame_KernelIdeal : Cert.quiescent_KernelIdeal := fun m g _ => Cert.KernelIdeal.Body.frame m g

theorem frame_ReferenceIdeal : Cert.quiescent_ReferenceIdeal := by
  intro m g _
  hlo_run
  · exact fun _ => ⟨trivial, trivial, trivial, trivial, trivial, trivial, trivial, trivial, trivial⟩
  · exact sem_eq_zero_of_no_sems (sig := Cert.ReferenceIdeal.sig) (by decide) _

end Cert.Proof

end
-- ==== Proof.Host.lean ====
/- What the host lines before the kernel leave in the arrays it stages: the nine taps of the stacked weights, their
   four groups, the padded image with its channel of ones, and the mask split by parity. -/
module

public import proofs.«01_k».proof.Proof.Body.KernelIdeal
public import Idealize.ShloMosaic.Lib.Pointwise
public import Idealize.ShloMosaic.Lib.Claim

@[expose] public section

set_option maxRecDepth 16384

noncomputable section

namespace Cert.KernelIdeal.Host

open Cert.KernelIdeal Cert.KernelIdeal.Gen
open Idealize.ShloMosaic Idealize.ShloMosaic.TcCoe Idealize.SL.Sem

variable (m : (ℓ : Loc nD τ sig) → Buf (Elt Ideal) ℓ)

/-- The table that says which taps of a stride-2 transposed convolution carry the bias. -/
def fl : FVec Ideal S3x3 .f32 := fun i => FloatOps.ofBits .f32 (lit0 (S3x3.rowMajor i))

/-- The 1×1 and the 3×3 low-rank weights as one 3×3 weight. -/
def wEff (l1 : FVec Ideal S24x96x1x1 .f32) (l2 : FVec Ideal S24x96x3x3 .f32) : FVec Ideal S96x96x3x3 .f32 :=
  Host.dotGeneral dot_S24x96_S24x96x3x3_S96x96x3x3_0_0_1_123_n_n none (shapeCast S24x96 l1 shapeCasts_S24x96x1x1_S24x96) l2

/-- A bias row: the bias at the taps that carry it. -/
def row (b : FVec Ideal S96 .f32) : FVec Ideal S96x3x3 .f32 :=
  mulf (broadcastInDim S96x3x3 ![0, 1, 2] bcast_S96x1x1_S96x3x3_0_1_2 (broadcastInDim S96x1x1 ![0] bcast_S96_S96x1x1_0 b))
    (broadcastInDim S96x3x3 ![0, 1, 2] bcast_S1x3x3_S96x3x3_0_1_2 (broadcastInDim S1x3x3 ![1, 2] bcast_S3x3_S1x3x3_1_2 fl))

/-- The low-rank branch's bias row. -/
def lowRow (lb1 : FVec Ideal S24 .f32) (l2 : FVec Ideal S24x96x3x3 .f32) (lb2 : FVec Ideal S96 .f32) : FVec Ideal S96x3x3 .f32 :=
  addf (Host.dotGeneral dot_S24_S24x96x3x3_S96x3x3_0_0_n_123_n_n none lb1 l2) (row lb2)

/-- All taps: 96 channels of weights and one of biases, by the difference of the branches and the low-rank branch. -/
def stack (hw we : FVec Ideal S96x96x3x3 .f32) (hr lr : FVec Ideal S96x3x3 .f32) : FVec Ideal S97x192x3x3 .f32 :=
  concatenate S97x192x3x3 0
    [⟨S96x192x3x3, concatenate S96x192x3x3 1 [⟨S96x96x3x3, subf hw we⟩, ⟨S96x96x3x3, we⟩] concatenates_S96x96x3x3_S96x96x3x3_S96x192x3x3_d1⟩,
     ⟨S1x192x3x3, broadcastInDim S1x192x3x3 ![1, 2, 3] bcast_S192x3x3_S1x192x3x3_1_2_3
        (concatenate S192x3x3 0 [⟨S96x3x3, subf hr lr⟩, ⟨S96x3x3, lr⟩] concatenates_S96x3x3_S96x3x3_S192x3x3_d0)⟩]
    concatenates_S96x192x3x3_S1x192x3x3_S97x192x3x3_d0

/-- The same with each half of the columns padded from 96 to 128. -/
def padded (s : FVec Ideal S97x192x3x3 .f32) : FVec Ideal S97x256x3x3 .bf16 :=
  truncf .bf16 (shapeCast S97x256x3x3
    (pad S97x2x128x3x3 ![0, 0, 0, 0, 0] ![0, 0, 32, 0, 0] ![0, 0, 0, 0, 0] (shapeCast S97x2x96x3x3 s shapeCasts_S97x192x3x3_S97x2x96x3x3)
      (sitofp .f32 (constantI S_ 32 0#32 : IVec S_ 32)) pads_S97x2x96x3x3_S97x2x128x3x3_000_000_0320_000_000 h_S_)
    shapeCasts_S97x2x128x3x3_S97x256x3x3) bitsLt_bf16_f32

def t9 (hw : FVec Ideal S96x96x3x3 .f32) (hb : FVec Ideal S96 .f32) (l1 : FVec Ideal S24x96x1x1 .f32) (lb1 : FVec Ideal S24 .f32)
    (l2 : FVec Ideal S24x96x3x3 .f32) (lb2 : FVec Ideal S96 .f32) : FVec Ideal S97x256x3x3 .bf16 :=
  padded (stack hw (wEff l1 l2) (row hb) (lowRow lb1 l2 lb2))

def tM (c : Dev nD) : FVec Ideal S97x256x3x3 .bf16 :=
  t9 (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem V_v23 (c : Dev nD) : V m c main_v23 = tM m c := by
  entry_read
  rfl

/-! ## The taps at an index -/

theorem stack_d (hw we : FVec Ideal S96x96x3x3 .f32) (hr lr : FVec Ideal S96x3x3 .f32) (k : Fin 96) (o : Fin 96) (y x : Fin 3) :
    stack hw we hr lr (ix4 ⟨k.val, by omega⟩ ⟨o.val, by omega⟩ y x) = hw (ix4 k o y x) - we (ix4 k o y x) := by
  pointwise [stack]

theorem stack_l (hw we : FVec Ideal S96x96x3x3 .f32) (hr lr : FVec Ideal S96x3x3 .f32) (k : Fin 96) (o : Fin 96) (y x : Fin 3) :
    stack hw we hr lr (ix4 ⟨k.val, by omega⟩ ⟨o.val + 96, by omega⟩ y x) = we (ix4 k o y x) := by
  pointwise [stack]
  rw [dif_neg (by omega)]
  exact congrArg we ((ix4_inj ..).2 ⟨rfl, Fin.ext (by show o.val + 96 - 96 = o.val; omega), rfl, rfl⟩)

theorem stack_bd (hw we : FVec Ideal S96x96x3x3 .f32) (hr lr : FVec Ideal S96x3x3 .f32) (o : Fin 96) (y x : Fin 3) :
    stack hw we hr lr (ix4 ⟨96, by omega⟩ ⟨o.val, by omega⟩ y x) = hr (ix3 o y x) - lr (ix3 o y x) := by
  pointwise [stack]

theorem stack_bl (hw we : FVec Ideal S96x96x3x3 .f32) (hr lr : FVec Ideal S96x3x3 .f32) (o : Fin 96) (y x : Fin 3) :
    stack hw we hr lr (ix4 ⟨96, by omega⟩ ⟨o.val + 96, by omega⟩ y x) = lr (ix3 o y x) := by
  pointwise [stack]
  rw [dif_neg (by omega)]
  exact congrArg lr ((ix3_inj ..).2 ⟨Fin.ext (by show o.val + 96 - 96 = o.val; omega), rfl, rfl⟩)

theorem padded_d (s : FVec Ideal S97x192x3x3 .f32) (k : Fin 97) (o : Fin 96) (y x : Fin 3) :
    padded s (ix4 k ⟨o.val, by omega⟩ y x) = s (ix4 k ⟨o.val, by omega⟩ y x) := by
  pointwise [padded]
  rw [dif_pos (by omega)]
  exact congrArg s ((ix4_inj ..).2 ⟨rfl, Fin.ext (by show o.val / 128 * 96 + o.val % 128 = o.val; omega), rfl, rfl⟩)

theorem padded_l (s : FVec Ideal S97x192x3x3 .f32) (k : Fin 97) (o : Fin 96) (y x : Fin 3) :
    padded s (ix4 k ⟨o.val + 128, by omega⟩ y x) = s (ix4 k ⟨o.val + 96, by omega⟩ y x) := by
  pointwise [padded]
  rw [dif_pos (by omega)]
  exact congrArg s ((ix4_inj ..).2 ⟨rfl, Fin.ext (by show (o.val + 128) / 128 * 96 + (o.val + 128) % 128 = o.val + 96; omega), rfl, rfl⟩)

theorem fl_at (y x : Fin 3) : fl (ix2 y x) = if y.val = 0 ∨ x.val = 0 then 0 else 1 := by
  have h1 : Ideal.ofBits .f32 0x3F800000#32 = 1 := by pointwise []
  have h0 : Ideal.ofBits .f32 0x00000000#32 = 0 := by pointwise []
  fin_cases y <;> fin_cases x <;> first | exact h1 | exact h0

theorem row_at (b : FVec Ideal S96 .f32) (o : Fin 96) (y x : Fin 3) : row b (ix3 o y x) = b (ix1 o) * fl (ix2 y x) := by
  pointwise [row]

theorem wEff_at (l1 : FVec Ideal S24x96x1x1 .f32) (l2 : FVec Ideal S24x96x3x3 .f32) (k o : Fin 96) (y x : Fin 3) :
    wEff l1 l2 (ix4 k o y x) = ∑ q : Fin 24, l1 (ix4 q k 0 0) * l2 (ix4 q o y x) := by
  pointwise [wEff]

theorem lowRow_at (lb1 : FVec Ideal S24 .f32) (l2 : FVec Ideal S24x96x3x3 .f32) (lb2 : FVec Ideal S96 .f32) (o : Fin 96) (y x : Fin 3) :
    lowRow lb1 l2 lb2 (ix3 o y x) = ∑ q : Fin 24, lb1 (ix1 q) * l2 (ix4 q o y x) + lb2 (ix1 o) * fl (ix2 y x) := by
  pointwise [lowRow, row_at]

/-! ## The four groups of taps -/

/-- One tap of the nine. -/
def tap (t : FVec Ideal S97x256x3x3 .bf16) (a b : ℕ) (h : S97x256x3x3.Slices ![0, 0, a, b] S97x256x1x1) : FVec Ideal S97x256 .bf16 :=
  shapeCast S97x256 (extractStridedSlice S97x256x1x1 ![0, 0, a, b] t h) shapeCasts_S97x256x1x1_S97x256

def g00 (t : FVec Ideal S97x256x3x3 .bf16) : FVec Ideal S97x1024 .bf16 :=
  concatenate S97x1024 1 [⟨S97x256, tap t 1 1 slices_S97x256x3x3_S97x256x1x1_0_0_1_1⟩, ⟨S97x256, tap t 1 2 slices_S97x256x3x3_S97x256x1x1_0_0_1_2⟩,
    ⟨S97x256, tap t 2 1 slices_S97x256x3x3_S97x256x1x1_0_0_2_1⟩, ⟨S97x256, tap t 2 2 slices_S97x256x3x3_S97x256x1x1_0_0_2_2⟩]
    concatenates_S97x256_S97x256_S97x256_S97x256_S97x1024_d1

def g01 (t : FVec Ideal S97x256x3x3 .bf16) : FVec Ideal S97x512 .bf16 :=
  concatenate S97x512 1 [⟨S97x256, tap t 1 0 slices_S97x256x3x3_S97x256x1x1_0_0_1_0⟩, ⟨S97x256, tap t 2 0 slices_S97x256x3x3_S97x256x1x1_0_0_2_0⟩]
    concatenates_S97x256_S97x256_S97x512_d1

def g10 (t : FVec Ideal S97x256x3x3 .bf16) : FVec Ideal S97x512 .bf16 :=
  concatenate S97x512 1 [⟨S97x256, tap t 0 1 slices_S97x256x3x3_S97x256x1x1_0_0_0_1⟩, ⟨S97x256, tap t 0 2 slices_S97x256x3x3_S97x256x1x1_0_0_0_2⟩]
    concatenates_S97x256_S97x256_S97x512_d1

def g11 (t : FVec Ideal S97x256x3x3 .bf16) : FVec Ideal S97x256 .bf16 := tap t 0 0 slices_S97x256x3x3_S97x256x1x1_0_0_0_0

/-- The line that joins four taps, read at its result. -/
theorem result_v32 (W : Valuation τ sig (Elt Ideal)) :
    (StableHlo.nary ![main_v25, main_v27, main_v29, main_v31] main_v32 (fun u => (concatenate S97x1024 1 [⟨S97x256, (u 0 : (⟨S97x256, .bf16⟩ : BufTy).Contents (Elt Ideal))⟩, ⟨S97x256, (u 1 : (⟨S97x256, .bf16⟩ : BufTy).Contents (Elt Ideal))⟩, ⟨S97x256, (u 2 : (⟨S97x256, .bf16⟩ : BufTy).Contents (Elt Ideal))⟩, ⟨S97x256, (u 3 : (⟨S97x256, .bf16⟩ : BufTy).Contents (Elt Ideal))⟩] concatenates_S97x256_S97x256_S97x256_S97x256_S97x1024_d1 : (⟨S97x1024, .bf16⟩ : BufTy).Contents (Elt Ideal)))).result W (Proc.devRef .tc main_v32)
      = concatenate S97x1024 1 [⟨S97x256, W (Proc.devRef .tc main_v25)⟩, ⟨S97x256, W (Proc.devRef .tc main_v27)⟩,
          ⟨S97x256, W (Proc.devRef .tc main_v29)⟩, ⟨S97x256, W (Proc.devRef .tc main_v31)⟩]
          concatenates_S97x256_S97x256_S97x256_S97x256_S97x1024_d1 :=
  StableHlo.nary4_result ..

theorem V_v32 (c : Dev nD) : V m c main_v32 = g00 (tM m c) := by
  show StableHlo.after (List.flatten [hostOps0, hostOps0_1, hostOps0_2, hostOps0_3, hostOps0_4]) (fun b => m (c, b)) (Proc.devRef .tc main_v32) = _
  simp only [hostOps0, hostOps0_1, hostOps0_2, hostOps0_3, hostOps0_4, List.flatten_cons, List.flatten_nil, List.append_nil,
    List.cons_append, List.nil_append, StableHlo.after_cons, StableHlo.after_nil]
  repeat (first
    | (rw [StableHlo.unary_result_ne]; rotate_left; decide)
    | (rw [StableHlo.binary_result_ne]; rotate_left; decide)
    | (rw [StableHlo.reshape_result_ne]; rotate_left; decide)
    | (rw [StableHlo.nullary_result_ne]; rotate_left; decide))
  rw [result_v32]
  simp only [↓ StableHlo.readResult, ↓ StableHlo.readPieces, -eq_self]
  rfl

theorem V_v37 (c : Dev nD) : V m c main_v37 = g01 (tM m c) := by
  show StableHlo.after (List.flatten [hostOps0, hostOps0_1, hostOps0_2, hostOps0_3, hostOps0_4]) (fun b => m (c, b)) (Proc.devRef .tc main_v37) = _
  simp only [hostOps0, hostOps0_1, hostOps0_2, hostOps0_3, hostOps0_4, List.flatten_cons, List.flatten_nil, List.append_nil,
    List.cons_append, List.nil_append]
  after_results
  rfl

theorem V_v42 (c : Dev nD) : V m c main_v42 = g10 (tM m c) := by
  show StableHlo.after (List.flatten [hostOps0, hostOps0_1, hostOps0_2, hostOps0_3, hostOps0_4]) (fun b => m (c, b)) (Proc.devRef .tc main_v42) = _
  simp only [hostOps0, hostOps0_1, hostOps0_2, hostOps0_3, hostOps0_4, List.flatten_cons, List.flatten_nil, List.append_nil,
    List.cons_append, List.nil_append]
  after_results
  rfl

theorem V_v44 (c : Dev nD) : V m c main_v44 = g11 (tM m c) := by
  show StableHlo.after (List.flatten [hostOps0, hostOps0_1, hostOps0_2, hostOps0_3, hostOps0_4]) (fun b => m (c, b)) (Proc.devRef .tc main_v44) = _
  simp only [hostOps0, hostOps0_1, hostOps0_2, hostOps0_3, hostOps0_4, List.flatten_cons, List.flatten_nil, List.append_nil,
    List.cons_append, List.nil_append]
  after_results
  rfl

theorem tap_at (t : FVec Ideal S97x256x3x3 .bf16) (a b : Fin 3) (h : S97x256x3x3.Slices ![0, 0, a.val, b.val] S97x256x1x1) (k : Fin 97) (l : Fin 256) :
    tap t a.val b.val h (ix2 k l) = t (ix4 k l a b) := by
  pointwise [tap]

theorem g00_0 (t : FVec Ideal S97x256x3x3 .bf16) (k : Fin 97) (l : Fin 256) : g00 t (ix2 k ⟨l.val, by omega⟩) = t (ix4 k l 1 1) := by
  pointwise [g00, tap]

theorem g00_1 (t : FVec Ideal S97x256x3x3 .bf16) (k : Fin 97) (l : Fin 256) : g00 t (ix2 k ⟨l.val + 256, by omega⟩) = t (ix4 k l 1 2) := by
  pointwise [g00, tap]
  rw [dif_neg (by omega)]
  rw [dif_pos (by omega)]
  exact congrArg t ((ix4_inj ..).2 ⟨rfl, Fin.ext (by show l.val + 256 - 256 = l.val; omega), rfl, rfl⟩)

theorem g00_2 (t : FVec Ideal S97x256x3x3 .bf16) (k : Fin 97) (l : Fin 256) : g00 t (ix2 k ⟨l.val + 512, by omega⟩) = t (ix4 k l 2 1) := by
  pointwise [g00, tap]
  rw [dif_neg (by omega)]
  rw [dif_neg (by omega)]
  rw [dif_pos (by omega)]
  exact congrArg t ((ix4_inj ..).2 ⟨rfl, Fin.ext (by show l.val + 512 - 256 - 256 = l.val; omega), rfl, rfl⟩)

theorem g00_3 (t : FVec Ideal S97x256x3x3 .bf16) (k : Fin 97) (l : Fin 256) : g00 t (ix2 k ⟨l.val + 768, by omega⟩) = t (ix4 k l 2 2) := by
  pointwise [g00, tap]
  rw [dif_neg (by omega)]
  rw [dif_neg (by omega)]
  rw [dif_neg (by omega)]
  exact congrArg t ((ix4_inj ..).2 ⟨rfl, Fin.ext (by show l.val + 768 - 256 - 256 - 256 = l.val; omega), rfl, rfl⟩)

theorem g01_0 (t : FVec Ideal S97x256x3x3 .bf16) (k : Fin 97) (l : Fin 256) : g01 t (ix2 k ⟨l.val, by omega⟩) = t (ix4 k l 1 0) := by
  pointwise [g01, tap]

theorem g01_1 (t : FVec Ideal S97x256x3x3 .bf16) (k : Fin 97) (l : Fin 256) : g01 t (ix2 k ⟨l.val + 256, by omega⟩) = t (ix4 k l 2 0) := by
  pointwise [g01, tap]
  rw [dif_neg (by omega)]
  exact congrArg t ((ix4_inj ..).2 ⟨rfl, Fin.ext (by show l.val + 256 - 256 = l.val; omega), rfl, rfl⟩)

theorem g10_0 (t : FVec Ideal S97x256x3x3 .bf16) (k : Fin 97) (l : Fin 256) : g10 t (ix2 k ⟨l.val, by omega⟩) = t (ix4 k l 0 1) := by
  pointwise [g10, tap]

theorem g10_1 (t : FVec Ideal S97x256x3x3 .bf16) (k : Fin 97) (l : Fin 256) : g10 t (ix2 k ⟨l.val + 256, by omega⟩) = t (ix4 k l 0 2) := by
  pointwise [g10, tap]
  rw [dif_neg (by omega)]
  exact congrArg t ((ix4_inj ..).2 ⟨rfl, Fin.ext (by show l.val + 256 - 256 = l.val; omega), rfl, rfl⟩)

theorem g11_0 (t : FVec Ideal S97x256x3x3 .bf16) (k : Fin 97) (l : Fin 256) : g11 t (ix2 k l) = t (ix4 k l 0 0) := by
  pointwise [g11, tap]

/-! ## The image and the mask -/

/-- The image with a channel of ones, padded by a row and a column of zeros, channels last. -/
def xPad (x : FVec Ideal S2x96x112x112 .f32) : FVec Ideal S2x113x113x97 .bf16 :=
  transpose S2x113x113x97 [0, 2, 3, 1]
    (truncf .bf16
      (pad S2x97x113x113 ![0, 0, 0, 0] ![0, 0, 1, 1] ![0, 0, 0, 0]
        (concatenate S2x97x112x112 1 [⟨S2x96x112x112, x⟩, ⟨S2x1x112x112, broadcastInDim S2x1x112x112 ![] bcast_S_S2x1x112x112 (constant S_ .f32 0x3F800000#32)⟩]
          concatenates_S2x96x112x112_S2x1x112x112_S2x97x112x112_d1)
        (sitofp .f32 (constantI S_ 32 0#32 : IVec S_ 32)) pads_S2x97x112x112_S2x97x113x113_000_000_010_010 h_S_) bitsLt_bf16_f32)
    transposes_S2x97x113x113_S2x113x113x97_0_2_3_1

/-- The mask by the parity of the row and of the column. -/
def mSplit (x : FVec Ideal S2x1x224x224 .f32) : FVec Ideal S2x2x2x112x112 .bf16 :=
  transpose S2x2x2x112x112 [0, 2, 4, 1, 3]
    (shapeCast S2x112x2x112x2 (truncf .bf16 x bitsLt_bf16_f32) shapeCasts_S2x1x224x224_S2x112x2x112x2)
    transposes_S2x112x2x112x2_S2x2x2x112x112_0_2_4_1_3

theorem V_v49 (c : Dev nD) : V m c main_v49 = xPad (m ((c.tc : Thread nD τ).loc main_arg0)) := by
  entry_read
  rfl

theorem V_v52 (c : Dev nD) : V m c main_v52 = mSplit (m ((c.tc : Thread nD τ).loc main_arg1)) := by
  entry_read
  rfl

/-- The image at a pixel, zero past its edges. -/
def xz (x : FVec Ideal S2x96x112x112 .f32) (n : Fin 2) (k : Fin 96) (i j : ℕ) : EReal :=
  if h : i < 112 ∧ j < 112 then x (ix4 n k ⟨i, h.1⟩ ⟨j, h.2⟩) else 0

/-- One inside the image, zero past its edges. -/
def one (i j : ℕ) : EReal := if i < 112 ∧ j < 112 then 1 else 0

theorem zero_at : FloatOps.sitofp (F := Ideal) FTy.f32 (0#32 : BitVec 32) = 0 := by
  show (((0#32 : BitVec 32).toInt : ℝ) : EReal) = 0
  simp

theorem xPad_at (x : FVec Ideal S2x96x112x112 .f32) (n : Fin 2) (i j : Fin 113) (k : Fin 96) :
    xPad x (ix4 n i j ⟨k.val, by omega⟩) = xz x n k i.val j.val := by
  pointwise [xPad, xz]
  exact dite_congr (propext ⟨fun h => h.2, fun h => ⟨by omega, h⟩⟩) (fun _ => rfl) (fun _ => zero_at)

theorem xPad_one (x : FVec Ideal S2x96x112x112 .f32) (n : Fin 2) (i j : Fin 113) :
    xPad x (ix4 n i j ⟨96, by omega⟩) = one i.val j.val := by
  pointwise [xPad, one]
  by_cases h : i.val < 112 ∧ j.val < 112
  · rw [if_pos h, dif_pos h]
  · rw [if_neg h, dif_neg h]
    exact zero_at

theorem mSplit_at (x : FVec Ideal S2x1x224x224 .f32) (n a b : Fin 2) (i j : Fin 112) :
    mSplit x (ix5 n a b i j) = x (ix4 n 0 ⟨i.val * 2 + a.val, by omega⟩ ⟨j.val * 2 + b.val, by omega⟩) := by
  pointwise [mSplit]

end Cert.KernelIdeal.Host

end
-- ==== Proof.Pay.lean ====
/- What the kernel stores at an index, for one parity of the row and of the column after the other, from the values it
   loads. -/
module

public import proofs.«01_k».proof.Proof.Gen.KernelIdeal.Skeleton
public import Idealize.ShloMosaic.Lib.Pointwise

@[expose] public section

set_option maxRecDepth 16384

noncomputable section

namespace Cert.KernelIdeal.Pay

open Cert.KernelIdeal Cert.KernelIdeal.Gen
open Idealize.ShloMosaic Idealize.ShloMosaic.TcCoe Idealize.SL.Sem

/-- A row of an image block times one column of a weight group, at a pixel. -/
def mm {n : ℕ} (X : FVec Ideal S1x16x112x97 .bf16) (W : FVec Ideal ⟨2, ![97, n]⟩ .bf16) (i : Fin 16) (j : Fin 112) (l : Fin n) : EReal :=
  ∑ k : Fin 97, (X (ix4 0 i j k) : EReal) * W (ix2 k l)

/-- The column of a tap's 256 that holds output channel `o` of the difference of the two weights, -/
def dch (o : Fin 96) : Fin 256 := ⟨o.val, by omega⟩
/-- and the one that holds it of the low-rank weight. -/
def lch (o : Fin 96) : Fin 256 := ⟨o.val + 128, by omega⟩

variable (X00 X01 X10 X11 : FVec Ideal S1x16x112x97 .bf16) (W00 : FVec Ideal S97x1024 .bf16) (W01 W10 : FVec Ideal S97x512 .bf16)
  (W11 : FVec Ideal S97x256 .bf16) (M : FVec Ideal S1x1x1x16x112 .bf16) (i : Fin 16) (j : Fin 112) (o : Fin 96)

/-- The four sums, one per parity of the row and the column, at column `l` of a tap. -/
def see (l : Fin 256) : EReal := mm X00 W00 i j ⟨l.val, by omega⟩
def seo (l : Fin 256) : EReal := mm X00 W00 i j ⟨l.val + 256, by omega⟩ + mm X01 W01 i j ⟨l.val, by omega⟩
def soe (l : Fin 256) : EReal := mm X00 W00 i j ⟨l.val + 512, by omega⟩ + mm X10 W10 i j ⟨l.val, by omega⟩
def soo (l : Fin 256) : EReal :=
  mm X00 W00 i j ⟨l.val + 768, by omega⟩ + mm X01 W01 i j ⟨l.val + 256, by omega⟩ + mm X10 W10 i j ⟨l.val + 256, by omega⟩ + mm X11 W11 i j l

theorem ee_at :
    ((k0_pay10 (k0_pay4 (F := Ideal) X00 W00) M : FVec Ideal S1x16x112x96 .f32) (ix4 0 i j o) : EReal)
      = see X00 W00 i j (lch o) + see X00 W00 i j (dch o) * M (ix5 0 0 0 i j) := by
  pointwise [k0_pay10, k0_pay4, see, mm, lch, dch]
  try simp only [Nat.add_comm, Nat.add_left_comm, Nat.add_assoc]

theorem eo_at :
    ((k0_pay1 (k0_pay11 (k0_pay4 (F := Ideal) X00 W00) (k0_pay5 (F := Ideal) X01 W01) M) : FVec Ideal S1x16x112x96 .f32) (ix4 0 i j o) : EReal)
      = seo X00 X01 W00 W01 i j (lch o) + seo X00 X01 W00 W01 i j (dch o) * M (ix5 0 0 0 i j) := by
  pointwise [k0_pay1, k0_pay11, k0_pay4, k0_pay5, seo, mm, lch, dch]
  try simp only [Nat.add_comm, Nat.add_left_comm, Nat.add_assoc]

theorem oe_at :
    ((k0_pay2 (k0_pay8 (k0_pay4 (F := Ideal) X00 W00) (k0_pay6 (F := Ideal) X10 W10)) M : FVec Ideal S1x16x112x96 .f32) (ix4 0 i j o) : EReal)
      = soe X00 X10 W00 W10 i j (lch o) + soe X00 X10 W00 W10 i j (dch o) * M (ix5 0 0 0 i j) := by
  pointwise [k0_pay2, k0_pay8, k0_pay4, k0_pay6, soe, mm, lch, dch]
  try simp only [Nat.add_comm, Nat.add_left_comm, Nat.add_assoc]

theorem oo_at :
    ((k0_pay3 (k0_pay9 (k0_pay4 (F := Ideal) X00 W00) (k0_pay5 (F := Ideal) X01 W01) (k0_pay6 (F := Ideal) X10 W10) (k0_pay7 X11) W11) M : FVec Ideal S1x16x112x96 .f32) (ix4 0 i j o) : EReal)
      = soo X00 X01 X10 X11 W00 W01 W10 W11 i j (lch o) + soo X00 X01 X10 X11 W00 W01 W10 W11 i j (dch o) * M (ix5 0 0 0 i j) := by
  pointwise [k0_pay3, k0_pay9, k0_pay7, k0_pay4, k0_pay5, k0_pay6, soo, mm, lch, dch]
  try simp only [Nat.add_comm, Nat.add_left_comm, Nat.add_assoc]

end Cert.KernelIdeal.Pay

end
-- ==== Proof.Point.lean ====
/- What the kernel leaves in its result array before the last transposition, at an index. -/
module

public import proofs.«01_k».proof.Proof.Pay
public import proofs.«01_k».proof.Proof.Body.KernelIdeal
public import Idealize.ShloMosaic.Lib.Pipeline.ValueKit

@[expose] public section

set_option maxRecDepth 16384

noncomputable section

namespace Cert.KernelIdeal.Point

open Cert.KernelIdeal Cert.KernelIdeal.Gen Cert.KernelIdeal.Body Cert.KernelIdeal.Pay
open Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N,
    win0_0.index t = ![(grid0.coords t 0).val, 0, 0, 0]
    ∧ win0_1.index t = ![(grid0.coords t 0).val, 0, 0, (grid0.coords t 1).val, 0]
    ∧ win0_2.index t = ![0, 0] ∧ win0_3.index t = ![0, 0] ∧ win0_4.index t = ![0, 0] ∧ win0_5.index t = ![0, 0]
    ∧ win0_6.index t = ![(grid0.coords t 0).val, (grid0.coords t 1).val, 0, 0] :=
  (by decide +kernel : ∀ t : Fin grid0.N, _)

theorem lt0 (t : Fin cfg0.N) : (grid0.coords t 0).val < 2 := (grid0.coords t 0).isLt
theorem lt1 (t : Fin cfg0.N) : (grid0.coords t 1).val < 7 := (grid0.coords t 1).isLt

/-! ## What the body reads, at an index -/

theorem ld_rx0 (X : Vec Ideal S1x113x113x97 .bf16) (p : grid0.Coords) (r : Fin 2) (i : Fin 16) (j : Fin 112) (k : Fin 97) (h1 : (p 1).val < 7) :
    View.ld (Val := Elt Ideal) (e' := .bf16) X (rx0 p r) (ix4 0 i j k) = X (ix4 0 ⟨16 * (p 1).val + i.val + r.val, by omega⟩ ⟨j.val, by omega⟩ k) := by
  have h := k0_off1_eq p r
  rw [View.ld_apply]
  refine congrArg X (funext fun a => Fin.ext ?_)
  rw [Rect.idx_unit_val]
  refine (congrArg (· + _) (congrFun h a)).trans ?_
  match a with
  | ⟨0, _⟩ => rfl
  | ⟨1, _⟩ => show 16 * (p 1).val + r.val + i.val = 16 * (p 1).val + i.val + r.val; omega
  | ⟨2, _⟩ => exact Nat.zero_add _
  | ⟨3, _⟩ => exact Nat.zero_add _

theorem ld_rx1 (X : Vec Ideal S1x113x113x97 .bf16) (p : grid0.Coords) (r : Fin 2) (i : Fin 16) (j : Fin 112) (k : Fin 97) (h1 : (p 1).val < 7) :
    View.ld (Val := Elt Ideal) (e' := .bf16) X (rx1 p r) (ix4 0 i j k) = X (ix4 0 ⟨16 * (p 1).val + i.val + r.val, by omega⟩ ⟨j.val + 1, by omega⟩ k) := by
  have h := k0_off2_eq p r
  rw [View.ld_apply]
  refine congrArg X (funext fun a => Fin.ext ?_)
  rw [Rect.idx_unit_val]
  refine (congrArg (· + _) (congrFun h a)).trans ?_
  match a with
  | ⟨0, _⟩ => rfl
  | ⟨1, _⟩ => show 16 * (p 1).val + r.val + i.val = 16 * (p 1).val + i.val + r.val; omega
  | ⟨2, _⟩ => show 1 + j.val = j.val + 1; omega
  | ⟨3, _⟩ => exact Nat.zero_add _

theorem ld_rg00 (X : Vec Ideal S97x1024 .bf16) : View.ld (Val := Elt Ideal) (e' := .bf16) X rg00 = X := by
  exact View.ld_unit_zero (off := ![0, 0]) (by funext a; fin_cases a <;> rfl) _ X

theorem ld_rg01 (X : Vec Ideal S97x512 .bf16) : View.ld (Val := Elt Ideal) (e' := .bf16) X rg01 = X := by
  exact View.ld_unit_zero (off := ![0, 0]) (by funext a; fin_cases a <;> rfl) _ X

theorem ld_rg11 (X : Vec Ideal S97x256 .bf16) : View.ld (Val := Elt Ideal) (e' := .bf16) X rg11 = X := by
  exact View.ld_unit_zero (off := ![0, 0]) (by funext a; fin_cases a <;> rfl) _ X

theorem ld_rm00 (X : Vec Ideal S1x2x2x16x112 .bf16) (i : Fin 16) (j : Fin 112) :
    View.ld (Val := Elt Ideal) (e' := .bf16) X rm00 (ix5 0 0 0 i j) = X (ix5 0 0 0 i j) := by
  rw [View.ld_apply]
  refine congrArg X (funext fun a => Fin.ext ?_)
  rw [Rect.idx_unit_val]
  fin_cases a <;> first | rfl | exact Nat.zero_add _

theorem ld_rm01 (X : Vec Ideal S1x2x2x16x112 .bf16) (i : Fin 16) (j : Fin 112) :
    View.ld (Val := Elt Ideal) (e' := .bf16) X rm01 (ix5 0 0 0 i j) = X (ix5 0 0 1 i j) := by
  rw [View.ld_apply]
  refine congrArg X (funext fun a => Fin.ext ?_)
  rw [Rect.idx_unit_val]
  fin_cases a <;> first | rfl | exact Nat.zero_add _

theorem ld_rm10 (X : Vec Ideal S1x2x2x16x112 .bf16) (i : Fin 16) (j : Fin 112) :
    View.ld (Val := Elt Ideal) (e' := .bf16) X rm10 (ix5 0 0 0 i j) = X (ix5 0 1 0 i j) := by
  rw [View.ld_apply]
  refine congrArg X (funext fun a => Fin.ext ?_)
  rw [Rect.idx_unit_val]
  fin_cases a <;> first | rfl | exact Nat.zero_add _

theorem ld_rm11 (X : Vec Ideal S1x2x2x16x112 .bf16) (i : Fin 16) (j : Fin 112) :
    View.ld (Val := Elt Ideal) (e' := .bf16) X rm11 (ix5 0 0 0 i j) = X (ix5 0 1 1 i j) := by
  rw [View.ld_apply]
  refine congrArg X (funext fun a => Fin.ext ?_)
  rw [Rect.idx_unit_val]
  fin_cases a <;> first | rfl | exact Nat.zero_add _

/-! ## The windows' blocks -/

theorem blk0 (c : Dev nD) (t : Fin cfg0.N) (i j : Fin 113) (k : Fin 97) :
    iblk m c 0 t (ix4 0 i j k) = V m c main_v49 (ix4 ⟨(grid0.coords t 0).val, lt0 t⟩ i j k) := by
  blk_ext [iblk, idx t]

theorem blk1 (c : Dev nD) (t : Fin cfg0.N) (a b : Fin 2) (i : Fin 16) (j : Fin 112) :
    iblk m c 1 t (ix5 0 a b i j) = V m c main_v52 (ix5 ⟨(grid0.coords t 0).val, lt0 t⟩ a b ⟨16 * (grid0.coords t 1).val + i.val, by have := lt1 t; omega⟩ j) := by
  blk_ext [iblk, idx t]

theorem blk2 (c : Dev nD) (t : Fin cfg0.N) : iblk m c 2 t = V m c main_v32 := by
  blk_ext! [iblk, idx t]

theorem blk3 (c : Dev nD) (t : Fin cfg0.N) : iblk m c 3 t = V m c main_v37 := by
  blk_ext! [iblk, idx t]

theorem blk4 (c : Dev nD) (t : Fin cfg0.N) : iblk m c 4 t = V m c main_v42 := by
  blk_ext! [iblk, idx t]

theorem blk5 (c : Dev nD) (t : Fin cfg0.N) : iblk m c 5 t = V m c main_v44 := by
  blk_ext! [iblk, idx t]

/-! ## The result over the arrays the kernel reads -/

/-- One pixel of the padded image times one column of a weight group. -/
def tapSum {n : ℕ} (xp : FVec Ideal S2x113x113x97 .bf16) (W : FVec Ideal ⟨2, ![97, n]⟩ .bf16) (b : Fin 2) (i j : Fin 113) (l : Fin n) : EReal :=
  ∑ k : Fin 97, (xp (ix4 b i j k) : EReal) * W (ix2 k l)

section sums

variable (xp : FVec Ideal S2x113x113x97 .bf16) (W00 : FVec Ideal S97x1024 .bf16) (W01 W10 : FVec Ideal S97x512 .bf16)
  (W11 : FVec Ideal S97x256 .bf16) (ms : FVec Ideal S2x2x2x112x112 .bf16)

/-- The four sums over the arrays, at a pixel of the small image and a column of a tap. -/
def tee (b : Fin 2) (i j : Fin 112) (l : Fin 256) : EReal := tapSum xp W00 b ⟨i.val, by omega⟩ ⟨j.val, by omega⟩ ⟨l.val, by omega⟩
def teo (b : Fin 2) (i j : Fin 112) (l : Fin 256) : EReal :=
  tapSum xp W00 b ⟨i.val, by omega⟩ ⟨j.val, by omega⟩ ⟨l.val + 256, by omega⟩ + tapSum xp W01 b ⟨i.val, by omega⟩ ⟨j.val + 1, by omega⟩ ⟨l.val, by omega⟩
def toe (b : Fin 2) (i j : Fin 112) (l : Fin 256) : EReal :=
  tapSum xp W00 b ⟨i.val, by omega⟩ ⟨j.val, by omega⟩ ⟨l.val + 512, by omega⟩ + tapSum xp W10 b ⟨i.val + 1, by omega⟩ ⟨j.val, by omega⟩ ⟨l.val, by omega⟩
def too (b : Fin 2) (i j : Fin 112) (l : Fin 256) : EReal :=
  tapSum xp W00 b ⟨i.val, by omega⟩ ⟨j.val, by omega⟩ ⟨l.val + 768, by omega⟩ + tapSum xp W01 b ⟨i.val, by omega⟩ ⟨j.val + 1, by omega⟩ ⟨l.val + 256, by omega⟩
    + tapSum xp W10 b ⟨i.val + 1, by omega⟩ ⟨j.val, by omega⟩ ⟨l.val + 256, by omega⟩ + tapSum xp W11 b ⟨i.val + 1, by omega⟩ ⟨j.val + 1, by omega⟩ l

/-- The sum for the row's parity `p` and the column's parity `q`. -/
def tsum (p q : Fin 2) (b : Fin 2) (i j : Fin 112) (l : Fin 256) : EReal :=
  match p, q with
  | 0, 0 => tee xp W00 b i j l
  | 0, 1 => teo xp W00 W01 b i j l
  | 1, 0 => toe xp W00 W10 b i j l
  | 1, 1 => too xp W00 W01 W10 W11 b i j l

/-- The blended value at a pixel. -/
def blend (p q : Fin 2) (b : Fin 2) (i j : Fin 112) (o : Fin 96) : EReal :=
  tsum xp W00 W01 W10 W11 p q b i j (lch o) + tsum xp W00 W01 W10 W11 p q b i j (dch o) * ms (ix5 b p q i j)

/-- The whole result before the last transposition. -/
def G : FVec Ideal S2x224x224x96 .f32 := fun y =>
  blend xp W00 W01 W10 W11 ms ⟨(y 1).val % 2, by omega⟩ ⟨(y 2).val % 2, by omega⟩ (y 0)
    ⟨(y 1).val / 2, by have : (y 1).val < 224 := (y 1).isLt; omega⟩ ⟨(y 2).val / 2, by have : (y 2).val < 224 := (y 2).isLt; omega⟩ (y 3)

theorem G_at (p q b : Fin 2) (i j : Fin 112) (o : Fin 96) (y : S2x224x224x96.Idx) (h0 : (y 0).val = b.val)
    (h1 : (y 1).val = 2 * i.val + p.val) (h2 : (y 2).val = 2 * j.val + q.val) (h3 : (y 3).val = o.val) :
    G xp W00 W01 W10 W11 ms y = blend xp W00 W01 W10 W11 ms p q b i j o := by
  have e0 : (y 0 : Fin 2) = b := Fin.ext h0
  have e3 : (y 3 : Fin 96) = o := Fin.ext h3
  have ep : (⟨(y 1).val % 2, by omega⟩ : Fin 2) = p := Fin.ext (by show (y 1).val % 2 = _; omega)
  have eq : (⟨(y 2).val % 2, by omega⟩ : Fin 2) = q := Fin.ext (by show (y 2).val % 2 = _; omega)
  have ei : ∀ h, (⟨(y 1).val / 2, h⟩ : Fin 112) = i := fun _ => Fin.ext (by show (y 1).val / 2 = _; omega)
  have ej : ∀ h, (⟨(y 2).val / 2, h⟩ : Fin 112) = j := fun _ => Fin.ext (by show (y 2).val / 2 = _; omega)
  show blend xp W00 W01 W10 W11 ms _ _ (y 0 : Fin 2) _ _ (y 3 : Fin 96) = _
  rw [e0, e3, ep, eq, ei, ej]

end sums

end Cert.KernelIdeal.Point

end
-- ==== Proof.Ref.lean ====
/- The reference's result at an index: each transposed convolution as the taps that meet a pixel. -/
module

public import proofs.«01_k».proof.Proof.Gen.ReferenceIdeal
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- A channel of an image at a pixel, zero outside the image. -/
def zx {K : ℕ} (x : FVec Ideal ⟨4, ![2, K, 112, 112]⟩ .f32) (n : Fin 2) (k : Fin K) (i j : ℕ) : EReal :=
  if h : i < 112 ∧ j < 112 then x (ix4 n k ⟨i, h.1⟩ ⟨j, h.2⟩) else 0

/-- The sum over the channels of an image at a pixel times the weights of one tap. -/
def hs {K : ℕ} (x : FVec Ideal ⟨4, ![2, K, 112, 112]⟩ .f32) (w : FVec Ideal ⟨4, ![K, 96, 3, 3]⟩ .f32) (n : Fin 2) (o : Fin 96)
    (y z : Fin 3) (i j : ℕ) : EReal := ∑ k : Fin K, zx x n k i j * (w (ix4 k o y z) : EReal)

/-! ## The convolution over 96 channels -/

/-- The image with zeros between its pixels and around it. -/
def padH (x : FVec Ideal S2x96x112x112 .f32) : FVec Ideal S2x96x226x226 .f32 :=
  pad S2x96x226x226 ![0, 0, 1, 1] ![0, 0, 2, 2] ![0, 0, 1, 1] x (constant S_ .f32 0x00000000#32) pads_S2x96x112x112_S2x96x226x226_000_000_121_121 h_S_

/-- One tap of the flipped weights over the padded image. -/
def tapH (ky kx : ℕ) (h1 : S96x96x3x3.Slices ![0, 0, ky, kx] S96x96x1x1) (h2 : S2x96x226x226.Slices ![0, 0, ky, kx] S2x96x224x224)
    (v0 : FVec Ideal S2x96x226x226 .f32) (v1 : FVec Ideal S96x96x3x3 .f32) : FVec Ideal S2x96x224x224 .f32 :=
  transpose S2x96x224x224 [1, 0, 2, 3] (Host.dotGeneral dot_S96x96_S2x96x224x224_S96x2x224x224_0_1_1_023_n_n none
    (shapeCast S96x96 (extractStridedSlice S96x96x1x1 ![0, 0, ky, kx] v1 h1) shapeCasts_S96x96x1x1_S96x96) (extractStridedSlice S2x96x224x224 ![0, 0, ky, kx] v0 h2))
    transposes_S96x2x224x224_S2x96x224x224_1_0_2_3

theorem tapH_at (ky kx : Fin 3) (h1 h2) (v0 : FVec Ideal S2x96x226x226 .f32) (v1 : FVec Ideal S96x96x3x3 .f32) (n : Fin 2) (o : Fin 96) (I J : Fin 224) :
    (tapH ky.val kx.val h1 h2 v0 v1 (ix4 n o I J) : EReal)
      = ∑ k : Fin 96, (v1 (ix4 k o ky kx) : EReal) * v0 (ix4 n k ⟨ky.val + I.val, by omega⟩ ⟨kx.val + J.val, by omega⟩) := by
  pointwise [tapH]

theorem revH_at (w : FVec Ideal S96x96x3x3 .f32) (k : Fin 96) (o : Fin 96) (y z : Fin 3) : Host.reverse [2, 3] w (ix4 k o y z) = w (ix4 k o y.rev z.rev) := by
  pointwise
  rfl

theorem padH_at (x : FVec Ideal S2x96x112x112 .f32) (n : Fin 2) (k : Fin 96) (P Q : Fin 226) :
    (padH x (ix4 n k P Q) : EReal)
      = if h : (1 ≤ P.val ∧ (P.val - 1) % 2 = 0 ∧ (P.val - 1) / 2 < 112) ∧ 1 ≤ Q.val ∧ (Q.val - 1) % 2 = 0 ∧ (Q.val - 1) / 2 < 112 then
          x (ix4 n k ⟨(P.val - 1) / 2, h.1.2.2⟩ ⟨(Q.val - 1) / 2, h.2.2.2⟩) else 0 := by
  pointwise [padH]

theorem padH_zero (x : FVec Ideal S2x96x112x112 .f32) (n : Fin 2) (k : Fin 96) (P Q : Fin 226) (h : P.val % 2 = 0 ∨ Q.val % 2 = 0) : (padH x (ix4 n k P Q) : EReal) = 0 := by
  rw [padH_at, dif_neg (by omega)]

theorem padH_odd (x : FVec Ideal S2x96x112x112 .f32) (n : Fin 2) (k : Fin 96) (P Q : Fin 226) (i j : ℕ) (hP : P.val = 2 * i + 1) (hQ : Q.val = 2 * j + 1) :
    (padH x (ix4 n k P Q) : EReal) = zx x n k i j := by
  obtain rfl : i = (P.val - 1) / 2 := by omega
  obtain rfl : j = (Q.val - 1) / 2 := by omega
  rw [padH_at, zx]
  exact dite_congr (propext ⟨fun h => ⟨h.1.2.2, h.2.2.2⟩, fun h => by omega⟩) (fun _ => rfl) (fun _ => rfl)

/-- A tap that meets no pixel of the image, -/
theorem tapH_zero (ky kx : Fin 3) (h1 h2) (x : FVec Ideal S2x96x112x112 .f32) (w : FVec Ideal S96x96x3x3 .f32) (n : Fin 2) (o : Fin 96) (I J : Fin 224)
    (h : (ky.val + I.val) % 2 = 0 ∨ (kx.val + J.val) % 2 = 0) :
    (tapH ky.val kx.val h1 h2 (padH x) (Host.reverse [2, 3] w) (ix4 n o I J) : EReal) = 0 := by
  rw [tapH_at]
  exact Finset.sum_eq_zero fun k _ => by rw [padH_zero x n k _ _ h, mul_zero]

/-- and one that meets pixel `(i, j)`. -/
theorem tapH_odd (ky kx y z : Fin 3) (h1 h2) (x : FVec Ideal S2x96x112x112 .f32) (w : FVec Ideal S96x96x3x3 .f32) (n : Fin 2) (o : Fin 96) (I J : Fin 224) (i j : ℕ) (hy : ky.rev = y) (hz : kx.rev = z)
    (hI : ky.val + I.val = 2 * i + 1) (hJ : kx.val + J.val = 2 * j + 1) :
    (tapH ky.val kx.val h1 h2 (padH x) (Host.reverse [2, 3] w) (ix4 n o I J) : EReal) = hs x w n o y z i j := by
  rw [tapH_at]
  exact Finset.sum_congr rfl fun k _ => by rw [padH_odd x n k _ _ i j hI hJ, revH_at, hy, hz, mul_comm]

/-- The transposed convolution with its bias. -/
def convH (x : FVec Ideal S2x96x112x112 .f32) (w : FVec Ideal S96x96x3x3 .f32) (b : FVec Ideal S96 .f32) : FVec Ideal S2x96x224x224 .f32 :=
  addf (addf (addf (addf (addf (addf (addf (addf (addf (tapH 0 0 slices_S96x96x3x3_S96x96x1x1_0_0_0_0 slices_S2x96x226x226_S2x96x224x224_0_0_0_0 (padH x) (Host.reverse [2, 3] w))
      (tapH 0 1 slices_S96x96x3x3_S96x96x1x1_0_0_0_1 slices_S2x96x226x226_S2x96x224x224_0_0_0_1 (padH x) (Host.reverse [2, 3] w)))
      (tapH 0 2 slices_S96x96x3x3_S96x96x1x1_0_0_0_2 slices_S2x96x226x226_S2x96x224x224_0_0_0_2 (padH x) (Host.reverse [2, 3] w)))
      (tapH 1 0 slices_S96x96x3x3_S96x96x1x1_0_0_1_0 slices_S2x96x226x226_S2x96x224x224_0_0_1_0 (padH x) (Host.reverse [2, 3] w)))
      (tapH 1 1 slices_S96x96x3x3_S96x96x1x1_0_0_1_1 slices_S2x96x226x226_S2x96x224x224_0_0_1_1 (padH x) (Host.reverse [2, 3] w)))
      (tapH 1 2 slices_S96x96x3x3_S96x96x1x1_0_0_1_2 slices_S2x96x226x226_S2x96x224x224_0_0_1_2 (padH x) (Host.reverse [2, 3] w)))
      (tapH 2 0 slices_S96x96x3x3_S96x96x1x1_0_0_2_0 slices_S2x96x226x226_S2x96x224x224_0_0_2_0 (padH x) (Host.reverse [2, 3] w)))
      (tapH 2 1 slices_S96x96x3x3_S96x96x1x1_0_0_2_1 slices_S2x96x226x226_S2x96x224x224_0_0_2_1 (padH x) (Host.reverse [2, 3] w)))
      (tapH 2 2 slices_S96x96x3x3_S96x96x1x1_0_0_2_2 slices_S2x96x226x226_S2x96x224x224_0_0_2_2 (padH x) (Host.reverse [2, 3] w)))
    (broadcastInDim S2x96x224x224 ![0, 1, 2, 3] bcast_S1x96x1x1_S2x96x224x224_0_1_2_3 (broadcastInDim S1x96x1x1 ![1] bcast_S96_S1x96x1x1_1 b))

theorem convH_ee (x : FVec Ideal S2x96x112x112 .f32) (w : FVec Ideal S96x96x3x3 .f32) (b : FVec Ideal S96 .f32) (n : Fin 2) (o : Fin 96) (i j : Fin 112) (I J : Fin 224)
    (hI : I.val = 2 * i.val + 0) (hJ : J.val = 2 * j.val + 0) :
    (convH x w b (ix4 n o I J) : EReal) = hs x w n o 1 1 i.val j.val + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapH_zero 0 0 slices_S96x96x3x3_S96x96x1x1_0_0_0_0 slices_S2x96x226x226_S2x96x224x224_0_0_0_0 x w n o I J
    (by show (0 + I.val) % 2 = 0 ∨ (0 + J.val) % 2 = 0; omega)
  have e01 := tapH_zero 0 1 slices_S96x96x3x3_S96x96x1x1_0_0_0_1 slices_S2x96x226x226_S2x96x224x224_0_0_0_1 x w n o I J
    (by show (0 + I.val) % 2 = 0 ∨ (1 + J.val) % 2 = 0; omega)
  have e02 := tapH_zero 0 2 slices_S96x96x3x3_S96x96x1x1_0_0_0_2 slices_S2x96x226x226_S2x96x224x224_0_0_0_2 x w n o I J
    (by show (0 + I.val) % 2 = 0 ∨ (2 + J.val) % 2 = 0; omega)
  have e10 := tapH_zero 1 0 slices_S96x96x3x3_S96x96x1x1_0_0_1_0 slices_S2x96x226x226_S2x96x224x224_0_0_1_0 x w n o I J
    (by show (1 + I.val) % 2 = 0 ∨ (0 + J.val) % 2 = 0; omega)
  have e11 := tapH_odd 1 1 1 1 slices_S96x96x3x3_S96x96x1x1_0_0_1_1 slices_S2x96x226x226_S2x96x224x224_0_0_1_1 x w n o I J i.val j.val (by decide) (by decide)
    (by show 1 + I.val = _; omega) (by show 1 + J.val = _; omega)
  have e12 := tapH_zero 1 2 slices_S96x96x3x3_S96x96x1x1_0_0_1_2 slices_S2x96x226x226_S2x96x224x224_0_0_1_2 x w n o I J
    (by show (1 + I.val) % 2 = 0 ∨ (2 + J.val) % 2 = 0; omega)
  have e20 := tapH_zero 2 0 slices_S96x96x3x3_S96x96x1x1_0_0_2_0 slices_S2x96x226x226_S2x96x224x224_0_0_2_0 x w n o I J
    (by show (2 + I.val) % 2 = 0 ∨ (0 + J.val) % 2 = 0; omega)
  have e21 := tapH_zero 2 1 slices_S96x96x3x3_S96x96x1x1_0_0_2_1 slices_S2x96x226x226_S2x96x224x224_0_0_2_1 x w n o I J
    (by show (2 + I.val) % 2 = 0 ∨ (1 + J.val) % 2 = 0; omega)
  have e22 := tapH_zero 2 2 slices_S96x96x3x3_S96x96x1x1_0_0_2_2 slices_S2x96x226x226_S2x96x224x224_0_0_2_2 x w n o I J
    (by show (2 + I.val) % 2 = 0 ∨ (2 + J.val) % 2 = 0; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

theorem convH_eo (x : FVec Ideal S2x96x112x112 .f32) (w : FVec Ideal S96x96x3x3 .f32) (b : FVec Ideal S96 .f32) (n : Fin 2) (o : Fin 96) (i j : Fin 112) (I J : Fin 224)
    (hI : I.val = 2 * i.val + 0) (hJ : J.val = 2 * j.val + 1) :
    (convH x w b (ix4 n o I J) : EReal) = hs x w n o 1 2 i.val j.val + hs x w n o 1 0 i.val (j.val + 1) + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapH_zero 0 0 slices_S96x96x3x3_S96x96x1x1_0_0_0_0 slices_S2x96x226x226_S2x96x224x224_0_0_0_0 x w n o I J
    (by show (0 + I.val) % 2 = 0 ∨ (0 + J.val) % 2 = 0; omega)
  have e01 := tapH_zero 0 1 slices_S96x96x3x3_S96x96x1x1_0_0_0_1 slices_S2x96x226x226_S2x96x224x224_0_0_0_1 x w n o I J
    (by show (0 + I.val) % 2 = 0 ∨ (1 + J.val) % 2 = 0; omega)
  have e02 := tapH_zero 0 2 slices_S96x96x3x3_S96x96x1x1_0_0_0_2 slices_S2x96x226x226_S2x96x224x224_0_0_0_2 x w n o I J
    (by show (0 + I.val) % 2 = 0 ∨ (2 + J.val) % 2 = 0; omega)
  have e10 := tapH_odd 1 0 1 2 slices_S96x96x3x3_S96x96x1x1_0_0_1_0 slices_S2x96x226x226_S2x96x224x224_0_0_1_0 x w n o I J i.val j.val (by decide) (by decide)
    (by show 1 + I.val = _; omega) (by show 0 + J.val = _; omega)
  have e11 := tapH_zero 1 1 slices_S96x96x3x3_S96x96x1x1_0_0_1_1 slices_S2x96x226x226_S2x96x224x224_0_0_1_1 x w n o I J
    (by show (1 + I.val) % 2 = 0 ∨ (1 + J.val) % 2 = 0; omega)
  have e12 := tapH_odd 1 2 1 0 slices_S96x96x3x3_S96x96x1x1_0_0_1_2 slices_S2x96x226x226_S2x96x224x224_0_0_1_2 x w n o I J i.val (j.val + 1) (by decide) (by decide)
    (by show 1 + I.val = _; omega) (by show 2 + J.val = _; omega)
  have e20 := tapH_zero 2 0 slices_S96x96x3x3_S96x96x1x1_0_0_2_0 slices_S2x96x226x226_S2x96x224x224_0_0_2_0 x w n o I J
    (by show (2 + I.val) % 2 = 0 ∨ (0 + J.val) % 2 = 0; omega)
  have e21 := tapH_zero 2 1 slices_S96x96x3x3_S96x96x1x1_0_0_2_1 slices_S2x96x226x226_S2x96x224x224_0_0_2_1 x w n o I J
    (by show (2 + I.val) % 2 = 0 ∨ (1 + J.val) % 2 = 0; omega)
  have e22 := tapH_zero 2 2 slices_S96x96x3x3_S96x96x1x1_0_0_2_2 slices_S2x96x226x226_S2x96x224x224_0_0_2_2 x w n o I J
    (by show (2 + I.val) % 2 = 0 ∨ (2 + J.val) % 2 = 0; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

theorem convH_oe (x : FVec Ideal S2x96x112x112 .f32) (w : FVec Ideal S96x96x3x3 .f32) (b : FVec Ideal S96 .f32) (n : Fin 2) (o : Fin 96) (i j : Fin 112) (I J : Fin 224)
    (hI : I.val = 2 * i.val + 1) (hJ : J.val = 2 * j.val + 0) :
    (convH x w b (ix4 n o I J) : EReal) = hs x w n o 2 1 i.val j.val + hs x w n o 0 1 (i.val + 1) j.val + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapH_zero 0 0 slices_S96x96x3x3_S96x96x1x1_0_0_0_0 slices_S2x96x226x226_S2x96x224x224_0_0_0_0 x w n o I J
    (by show (0 + I.val) % 2 = 0 ∨ (0 + J.val) % 2 = 0; omega)
  have e01 := tapH_odd 0 1 2 1 slices_S96x96x3x3_S96x96x1x1_0_0_0_1 slices_S2x96x226x226_S2x96x224x224_0_0_0_1 x w n o I J i.val j.val (by decide) (by decide)
    (by show 0 + I.val = _; omega) (by show 1 + J.val = _; omega)
  have e02 := tapH_zero 0 2 slices_S96x96x3x3_S96x96x1x1_0_0_0_2 slices_S2x96x226x226_S2x96x224x224_0_0_0_2 x w n o I J
    (by show (0 + I.val) % 2 = 0 ∨ (2 + J.val) % 2 = 0; omega)
  have e10 := tapH_zero 1 0 slices_S96x96x3x3_S96x96x1x1_0_0_1_0 slices_S2x96x226x226_S2x96x224x224_0_0_1_0 x w n o I J
    (by show (1 + I.val) % 2 = 0 ∨ (0 + J.val) % 2 = 0; omega)
  have e11 := tapH_zero 1 1 slices_S96x96x3x3_S96x96x1x1_0_0_1_1 slices_S2x96x226x226_S2x96x224x224_0_0_1_1 x w n o I J
    (by show (1 + I.val) % 2 = 0 ∨ (1 + J.val) % 2 = 0; omega)
  have e12 := tapH_zero 1 2 slices_S96x96x3x3_S96x96x1x1_0_0_1_2 slices_S2x96x226x226_S2x96x224x224_0_0_1_2 x w n o I J
    (by show (1 + I.val) % 2 = 0 ∨ (2 + J.val) % 2 = 0; omega)
  have e20 := tapH_zero 2 0 slices_S96x96x3x3_S96x96x1x1_0_0_2_0 slices_S2x96x226x226_S2x96x224x224_0_0_2_0 x w n o I J
    (by show (2 + I.val) % 2 = 0 ∨ (0 + J.val) % 2 = 0; omega)
  have e21 := tapH_odd 2 1 0 1 slices_S96x96x3x3_S96x96x1x1_0_0_2_1 slices_S2x96x226x226_S2x96x224x224_0_0_2_1 x w n o I J (i.val + 1) j.val (by decide) (by decide)
    (by show 2 + I.val = _; omega) (by show 1 + J.val = _; omega)
  have e22 := tapH_zero 2 2 slices_S96x96x3x3_S96x96x1x1_0_0_2_2 slices_S2x96x226x226_S2x96x224x224_0_0_2_2 x w n o I J
    (by show (2 + I.val) % 2 = 0 ∨ (2 + J.val) % 2 = 0; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

theorem convH_oo (x : FVec Ideal S2x96x112x112 .f32) (w : FVec Ideal S96x96x3x3 .f32) (b : FVec Ideal S96 .f32) (n : Fin 2) (o : Fin 96) (i j : Fin 112) (I J : Fin 224)
    (hI : I.val = 2 * i.val + 1) (hJ : J.val = 2 * j.val + 1) :
    (convH x w b (ix4 n o I J) : EReal) = hs x w n o 2 2 i.val j.val + hs x w n o 2 0 i.val (j.val + 1) + hs x w n o 0 2 (i.val + 1) j.val + hs x w n o 0 0 (i.val + 1) (j.val + 1) + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapH_odd 0 0 2 2 slices_S96x96x3x3_S96x96x1x1_0_0_0_0 slices_S2x96x226x226_S2x96x224x224_0_0_0_0 x w n o I J i.val j.val (by decide) (by decide)
    (by show 0 + I.val = _; omega) (by show 0 + J.val = _; omega)
  have e01 := tapH_zero 0 1 slices_S96x96x3x3_S96x96x1x1_0_0_0_1 slices_S2x96x226x226_S2x96x224x224_0_0_0_1 x w n o I J
    (by show (0 + I.val) % 2 = 0 ∨ (1 + J.val) % 2 = 0; omega)
  have e02 := tapH_odd 0 2 2 0 slices_S96x96x3x3_S96x96x1x1_0_0_0_2 slices_S2x96x226x226_S2x96x224x224_0_0_0_2 x w n o I J i.val (j.val + 1) (by decide) (by decide)
    (by show 0 + I.val = _; omega) (by show 2 + J.val = _; omega)
  have e10 := tapH_zero 1 0 slices_S96x96x3x3_S96x96x1x1_0_0_1_0 slices_S2x96x226x226_S2x96x224x224_0_0_1_0 x w n o I J
    (by show (1 + I.val) % 2 = 0 ∨ (0 + J.val) % 2 = 0; omega)
  have e11 := tapH_zero 1 1 slices_S96x96x3x3_S96x96x1x1_0_0_1_1 slices_S2x96x226x226_S2x96x224x224_0_0_1_1 x w n o I J
    (by show (1 + I.val) % 2 = 0 ∨ (1 + J.val) % 2 = 0; omega)
  have e12 := tapH_zero 1 2 slices_S96x96x3x3_S96x96x1x1_0_0_1_2 slices_S2x96x226x226_S2x96x224x224_0_0_1_2 x w n o I J
    (by show (1 + I.val) % 2 = 0 ∨ (2 + J.val) % 2 = 0; omega)
  have e20 := tapH_odd 2 0 0 2 slices_S96x96x3x3_S96x96x1x1_0_0_2_0 slices_S2x96x226x226_S2x96x224x224_0_0_2_0 x w n o I J (i.val + 1) j.val (by decide) (by decide)
    (by show 2 + I.val = _; omega) (by show 0 + J.val = _; omega)
  have e21 := tapH_zero 2 1 slices_S96x96x3x3_S96x96x1x1_0_0_2_1 slices_S2x96x226x226_S2x96x224x224_0_0_2_1 x w n o I J
    (by show (2 + I.val) % 2 = 0 ∨ (1 + J.val) % 2 = 0; omega)
  have e22 := tapH_odd 2 2 0 0 slices_S96x96x3x3_S96x96x1x1_0_0_2_2 slices_S2x96x226x226_S2x96x224x224_0_0_2_2 x w n o I J (i.val + 1) (j.val + 1) (by decide) (by decide)
    (by show 2 + I.val = _; omega) (by show 2 + J.val = _; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

/-! ## The convolution over 24 channels -/

/-- The image with zeros between its pixels and around it. -/
def padL (x : FVec Ideal S2x24x112x112 .f32) : FVec Ideal S2x24x226x226 .f32 :=
  pad S2x24x226x226 ![0, 0, 1, 1] ![0, 0, 2, 2] ![0, 0, 1, 1] x (constant S_ .f32 0x00000000#32) pads_S2x24x112x112_S2x24x226x226_000_000_121_121 h_S_

/-- One tap of the flipped weights over the padded image. -/
def tapL (ky kx : ℕ) (h1 : S24x96x3x3.Slices ![0, 0, ky, kx] S24x96x1x1) (h2 : S2x24x226x226.Slices ![0, 0, ky, kx] S2x24x224x224)
    (v0 : FVec Ideal S2x24x226x226 .f32) (v1 : FVec Ideal S24x96x3x3 .f32) : FVec Ideal S2x96x224x224 .f32 :=
  transpose S2x96x224x224 [1, 0, 2, 3] (Host.dotGeneral dot_S24x96_S2x24x224x224_S96x2x224x224_0_1_1_023_n_n none
    (shapeCast S24x96 (extractStridedSlice S24x96x1x1 ![0, 0, ky, kx] v1 h1) shapeCasts_S24x96x1x1_S24x96) (extractStridedSlice S2x24x224x224 ![0, 0, ky, kx] v0 h2))
    transposes_S96x2x224x224_S2x96x224x224_1_0_2_3

theorem tapL_at (ky kx : Fin 3) (h1 h2) (v0 : FVec Ideal S2x24x226x226 .f32) (v1 : FVec Ideal S24x96x3x3 .f32) (n : Fin 2) (o : Fin 96) (I J : Fin 224) :
    (tapL ky.val kx.val h1 h2 v0 v1 (ix4 n o I J) : EReal)
      = ∑ k : Fin 24, (v1 (ix4 k o ky kx) : EReal) * v0 (ix4 n k ⟨ky.val + I.val, by omega⟩ ⟨kx.val + J.val, by omega⟩) := by
  pointwise [tapL]

theorem revL_at (w : FVec Ideal S24x96x3x3 .f32) (k : Fin 24) (o : Fin 96) (y z : Fin 3) : Host.reverse [2, 3] w (ix4 k o y z) = w (ix4 k o y.rev z.rev) := by
  pointwise
  rfl

theorem padL_at (x : FVec Ideal S2x24x112x112 .f32) (n : Fin 2) (k : Fin 24) (P Q : Fin 226) :
    (padL x (ix4 n k P Q) : EReal)
      = if h : (1 ≤ P.val ∧ (P.val - 1) % 2 = 0 ∧ (P.val - 1) / 2 < 112) ∧ 1 ≤ Q.val ∧ (Q.val - 1) % 2 = 0 ∧ (Q.val - 1) / 2 < 112 then
          x (ix4 n k ⟨(P.val - 1) / 2, h.1.2.2⟩ ⟨(Q.val - 1) / 2, h.2.2.2⟩) else 0 := by
  pointwise [padL]

theorem padL_zero (x : FVec Ideal S2x24x112x112 .f32) (n : Fin 2) (k : Fin 24) (P Q : Fin 226) (h : P.val % 2 = 0 ∨ Q.val % 2 = 0) : (padL x (ix4 n k P Q) : EReal) = 0 := by
  rw [padL_at, dif_neg (by omega)]

theorem padL_odd (x : FVec Ideal S2x24x112x112 .f32) (n : Fin 2) (k : Fin 24) (P Q : Fin 226) (i j : ℕ) (hP : P.val = 2 * i + 1) (hQ : Q.val = 2 * j + 1) :
    (padL x (ix4 n k P Q) : EReal) = zx x n k i j := by
  obtain rfl : i = (P.val - 1) / 2 := by omega
  obtain rfl : j = (Q.val - 1) / 2 := by omega
  rw [padL_at, zx]
  exact dite_congr (propext ⟨fun h => ⟨h.1.2.2, h.2.2.2⟩, fun h => by omega⟩) (fun _ => rfl) (fun _ => rfl)

/-- A tap that meets no pixel of the image, -/
theorem tapL_zero (ky kx : Fin 3) (h1 h2) (x : FVec Ideal S2x24x112x112 .f32) (w : FVec Ideal S24x96x3x3 .f32) (n : Fin 2) (o : Fin 96) (I J : Fin 224)
    (h : (ky.val + I.val) % 2 = 0 ∨ (kx.val + J.val) % 2 = 0) :
    (tapL ky.val kx.val h1 h2 (padL x) (Host.reverse [2, 3] w) (ix4 n o I J) : EReal) = 0 := by
  rw [tapL_at]
  exact Finset.sum_eq_zero fun k _ => by rw [padL_zero x n k _ _ h, mul_zero]

/-- and one that meets pixel `(i, j)`. -/
theorem tapL_odd (ky kx y z : Fin 3) (h1 h2) (x : FVec Ideal S2x24x112x112 .f32) (w : FVec Ideal S24x96x3x3 .f32) (n : Fin 2) (o : Fin 96) (I J : Fin 224) (i j : ℕ) (hy : ky.rev = y) (hz : kx.rev = z)
    (hI : ky.val + I.val = 2 * i + 1) (hJ : kx.val + J.val = 2 * j + 1) :
    (tapL ky.val kx.val h1 h2 (padL x) (Host.reverse [2, 3] w) (ix4 n o I J) : EReal) = hs x w n o y z i j := by
  rw [tapL_at]
  exact Finset.sum_congr rfl fun k _ => by rw [padL_odd x n k _ _ i j hI hJ, revL_at, hy, hz, mul_comm]

/-- The transposed convolution with its bias. -/
def convL (x : FVec Ideal S2x24x112x112 .f32) (w : FVec Ideal S24x96x3x3 .f32) (b : FVec Ideal S96 .f32) : FVec Ideal S2x96x224x224 .f32 :=
  addf (addf (addf (addf (addf (addf (addf (addf (addf (tapL 0 0 slices_S24x96x3x3_S24x96x1x1_0_0_0_0 slices_S2x24x226x226_S2x24x224x224_0_0_0_0 (padL x) (Host.reverse [2, 3] w))
      (tapL 0 1 slices_S24x96x3x3_S24x96x1x1_0_0_0_1 slices_S2x24x226x226_S2x24x224x224_0_0_0_1 (padL x) (Host.reverse [2, 3] w)))
      (tapL 0 2 slices_S24x96x3x3_S24x96x1x1_0_0_0_2 slices_S2x24x226x226_S2x24x224x224_0_0_0_2 (padL x) (Host.reverse [2, 3] w)))
      (tapL 1 0 slices_S24x96x3x3_S24x96x1x1_0_0_1_0 slices_S2x24x226x226_S2x24x224x224_0_0_1_0 (padL x) (Host.reverse [2, 3] w)))
      (tapL 1 1 slices_S24x96x3x3_S24x96x1x1_0_0_1_1 slices_S2x24x226x226_S2x24x224x224_0_0_1_1 (padL x) (Host.reverse [2, 3] w)))
      (tapL 1 2 slices_S24x96x3x3_S24x96x1x1_0_0_1_2 slices_S2x24x226x226_S2x24x224x224_0_0_1_2 (padL x) (Host.reverse [2, 3] w)))
      (tapL 2 0 slices_S24x96x3x3_S24x96x1x1_0_0_2_0 slices_S2x24x226x226_S2x24x224x224_0_0_2_0 (padL x) (Host.reverse [2, 3] w)))
      (tapL 2 1 slices_S24x96x3x3_S24x96x1x1_0_0_2_1 slices_S2x24x226x226_S2x24x224x224_0_0_2_1 (padL x) (Host.reverse [2, 3] w)))
      (tapL 2 2 slices_S24x96x3x3_S24x96x1x1_0_0_2_2 slices_S2x24x226x226_S2x24x224x224_0_0_2_2 (padL x) (Host.reverse [2, 3] w)))
    (broadcastInDim S2x96x224x224 ![0, 1, 2, 3] bcast_S1x96x1x1_S2x96x224x224_0_1_2_3 (broadcastInDim S1x96x1x1 ![1] bcast_S96_S1x96x1x1_1 b))

theorem convL_ee (x : FVec Ideal S2x24x112x112 .f32) (w : FVec Ideal S24x96x3x3 .f32) (b : FVec Ideal S96 .f32) (n : Fin 2) (o : Fin 96) (i j : Fin 112) (I J : Fin 224)
    (hI : I.val = 2 * i.val + 0) (hJ : J.val = 2 * j.val + 0) :
    (convL x w b (ix4 n o I J) : EReal) = hs x w n o 1 1 i.val j.val + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapL_zero 0 0 slices_S24x96x3x3_S24x96x1x1_0_0_0_0 slices_S2x24x226x226_S2x24x224x224_0_0_0_0 x w n o I J
    (by show (0 + I.val) % 2 = 0 ∨ (0 + J.val) % 2 = 0; omega)
  have e01 := tapL_zero 0 1 slices_S24x96x3x3_S24x96x1x1_0_0_0_1 slices_S2x24x226x226_S2x24x224x224_0_0_0_1 x w n o I J
    (by show (0 + I.val) % 2 = 0 ∨ (1 + J.val) % 2 = 0; omega)
  have e02 := tapL_zero 0 2 slices_S24x96x3x3_S24x96x1x1_0_0_0_2 slices_S2x24x226x226_S2x24x224x224_0_0_0_2 x w n o I J
    (by show (0 + I.val) % 2 = 0 ∨ (2 + J.val) % 2 = 0; omega)
  have e10 := tapL_zero 1 0 slices_S24x96x3x3_S24x96x1x1_0_0_1_0 slices_S2x24x226x226_S2x24x224x224_0_0_1_0 x w n o I J
    (by show (1 + I.val) % 2 = 0 ∨ (0 + J.val) % 2 = 0; omega)
  have e11 := tapL_odd 1 1 1 1 slices_S24x96x3x3_S24x96x1x1_0_0_1_1 slices_S2x24x226x226_S2x24x224x224_0_0_1_1 x w n o I J i.val j.val (by decide) (by decide)
    (by show 1 + I.val = _; omega) (by show 1 + J.val = _; omega)
  have e12 := tapL_zero 1 2 slices_S24x96x3x3_S24x96x1x1_0_0_1_2 slices_S2x24x226x226_S2x24x224x224_0_0_1_2 x w n o I J
    (by show (1 + I.val) % 2 = 0 ∨ (2 + J.val) % 2 = 0; omega)
  have e20 := tapL_zero 2 0 slices_S24x96x3x3_S24x96x1x1_0_0_2_0 slices_S2x24x226x226_S2x24x224x224_0_0_2_0 x w n o I J
    (by show (2 + I.val) % 2 = 0 ∨ (0 + J.val) % 2 = 0; omega)
  have e21 := tapL_zero 2 1 slices_S24x96x3x3_S24x96x1x1_0_0_2_1 slices_S2x24x226x226_S2x24x224x224_0_0_2_1 x w n o I J
    (by show (2 + I.val) % 2 = 0 ∨ (1 + J.val) % 2 = 0; omega)
  have e22 := tapL_zero 2 2 slices_S24x96x3x3_S24x96x1x1_0_0_2_2 slices_S2x24x226x226_S2x24x224x224_0_0_2_2 x w n o I J
    (by show (2 + I.val) % 2 = 0 ∨ (2 + J.val) % 2 = 0; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

theorem convL_eo (x : FVec Ideal S2x24x112x112 .f32) (w : FVec Ideal S24x96x3x3 .f32) (b : FVec Ideal S96 .f32) (n : Fin 2) (o : Fin 96) (i j : Fin 112) (I J : Fin 224)
    (hI : I.val = 2 * i.val + 0) (hJ : J.val = 2 * j.val + 1) :
    (convL x w b (ix4 n o I J) : EReal) = hs x w n o 1 2 i.val j.val + hs x w n o 1 0 i.val (j.val + 1) + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapL_zero 0 0 slices_S24x96x3x3_S24x96x1x1_0_0_0_0 slices_S2x24x226x226_S2x24x224x224_0_0_0_0 x w n o I J
    (by show (0 + I.val) % 2 = 0 ∨ (0 + J.val) % 2 = 0; omega)
  have e01 := tapL_zero 0 1 slices_S24x96x3x3_S24x96x1x1_0_0_0_1 slices_S2x24x226x226_S2x24x224x224_0_0_0_1 x w n o I J
    (by show (0 + I.val) % 2 = 0 ∨ (1 + J.val) % 2 = 0; omega)
  have e02 := tapL_zero 0 2 slices_S24x96x3x3_S24x96x1x1_0_0_0_2 slices_S2x24x226x226_S2x24x224x224_0_0_0_2 x w n o I J
    (by show (0 + I.val) % 2 = 0 ∨ (2 + J.val) % 2 = 0; omega)
  have e10 := tapL_odd 1 0 1 2 slices_S24x96x3x3_S24x96x1x1_0_0_1_0 slices_S2x24x226x226_S2x24x224x224_0_0_1_0 x w n o I J i.val j.val (by decide) (by decide)
    (by show 1 + I.val = _; omega) (by show 0 + J.val = _; omega)
  have e11 := tapL_zero 1 1 slices_S24x96x3x3_S24x96x1x1_0_0_1_1 slices_S2x24x226x226_S2x24x224x224_0_0_1_1 x w n o I J
    (by show (1 + I.val) % 2 = 0 ∨ (1 + J.val) % 2 = 0; omega)
  have e12 := tapL_odd 1 2 1 0 slices_S24x96x3x3_S24x96x1x1_0_0_1_2 slices_S2x24x226x226_S2x24x224x224_0_0_1_2 x w n o I J i.val (j.val + 1) (by decide) (by decide)
    (by show 1 + I.val = _; omega) (by show 2 + J.val = _; omega)
  have e20 := tapL_zero 2 0 slices_S24x96x3x3_S24x96x1x1_0_0_2_0 slices_S2x24x226x226_S2x24x224x224_0_0_2_0 x w n o I J
    (by show (2 + I.val) % 2 = 0 ∨ (0 + J.val) % 2 = 0; omega)
  have e21 := tapL_zero 2 1 slices_S24x96x3x3_S24x96x1x1_0_0_2_1 slices_S2x24x226x226_S2x24x224x224_0_0_2_1 x w n o I J
    (by show (2 + I.val) % 2 = 0 ∨ (1 + J.val) % 2 = 0; omega)
  have e22 := tapL_zero 2 2 slices_S24x96x3x3_S24x96x1x1_0_0_2_2 slices_S2x24x226x226_S2x24x224x224_0_0_2_2 x w n o I J
    (by show (2 + I.val) % 2 = 0 ∨ (2 + J.val) % 2 = 0; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

theorem convL_oe (x : FVec Ideal S2x24x112x112 .f32) (w : FVec Ideal S24x96x3x3 .f32) (b : FVec Ideal S96 .f32) (n : Fin 2) (o : Fin 96) (i j : Fin 112) (I J : Fin 224)
    (hI : I.val = 2 * i.val + 1) (hJ : J.val = 2 * j.val + 0) :
    (convL x w b (ix4 n o I J) : EReal) = hs x w n o 2 1 i.val j.val + hs x w n o 0 1 (i.val + 1) j.val + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapL_zero 0 0 slices_S24x96x3x3_S24x96x1x1_0_0_0_0 slices_S2x24x226x226_S2x24x224x224_0_0_0_0 x w n o I J
    (by show (0 + I.val) % 2 = 0 ∨ (0 + J.val) % 2 = 0; omega)
  have e01 := tapL_odd 0 1 2 1 slices_S24x96x3x3_S24x96x1x1_0_0_0_1 slices_S2x24x226x226_S2x24x224x224_0_0_0_1 x w n o I J i.val j.val (by decide) (by decide)
    (by show 0 + I.val = _; omega) (by show 1 + J.val = _; omega)
  have e02 := tapL_zero 0 2 slices_S24x96x3x3_S24x96x1x1_0_0_0_2 slices_S2x24x226x226_S2x24x224x224_0_0_0_2 x w n o I J
    (by show (0 + I.val) % 2 = 0 ∨ (2 + J.val) % 2 = 0; omega)
  have e10 := tapL_zero 1 0 slices_S24x96x3x3_S24x96x1x1_0_0_1_0 slices_S2x24x226x226_S2x24x224x224_0_0_1_0 x w n o I J
    (by show (1 + I.val) % 2 = 0 ∨ (0 + J.val) % 2 = 0; omega)
  have e11 := tapL_zero 1 1 slices_S24x96x3x3_S24x96x1x1_0_0_1_1 slices_S2x24x226x226_S2x24x224x224_0_0_1_1 x w n o I J
    (by show (1 + I.val) % 2 = 0 ∨ (1 + J.val) % 2 = 0; omega)
  have e12 := tapL_zero 1 2 slices_S24x96x3x3_S24x96x1x1_0_0_1_2 slices_S2x24x226x226_S2x24x224x224_0_0_1_2 x w n o I J
    (by show (1 + I.val) % 2 = 0 ∨ (2 + J.val) % 2 = 0; omega)
  have e20 := tapL_zero 2 0 slices_S24x96x3x3_S24x96x1x1_0_0_2_0 slices_S2x24x226x226_S2x24x224x224_0_0_2_0 x w n o I J
    (by show (2 + I.val) % 2 = 0 ∨ (0 + J.val) % 2 = 0; omega)
  have e21 := tapL_odd 2 1 0 1 slices_S24x96x3x3_S24x96x1x1_0_0_2_1 slices_S2x24x226x226_S2x24x224x224_0_0_2_1 x w n o I J (i.val + 1) j.val (by decide) (by decide)
    (by show 2 + I.val = _; omega) (by show 1 + J.val = _; omega)
  have e22 := tapL_zero 2 2 slices_S24x96x3x3_S24x96x1x1_0_0_2_2 slices_S2x24x226x226_S2x24x224x224_0_0_2_2 x w n o I J
    (by show (2 + I.val) % 2 = 0 ∨ (2 + J.val) % 2 = 0; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

theorem convL_oo (x : FVec Ideal S2x24x112x112 .f32) (w : FVec Ideal S24x96x3x3 .f32) (b : FVec Ideal S96 .f32) (n : Fin 2) (o : Fin 96) (i j : Fin 112) (I J : Fin 224)
    (hI : I.val = 2 * i.val + 1) (hJ : J.val = 2 * j.val + 1) :
    (convL x w b (ix4 n o I J) : EReal) = hs x w n o 2 2 i.val j.val + hs x w n o 2 0 i.val (j.val + 1) + hs x w n o 0 2 (i.val + 1) j.val + hs x w n o 0 0 (i.val + 1) (j.val + 1) + b (ix1 o) := by
  have hb : (broadcastInDim S2x96x224x224 ![0, 1, 2, 3] bcast_S1x96x1x1_S2x96x224x224_0_1_2_3 (broadcastInDim S1x96x1x1 ![1] bcast_S96_S1x96x1x1_1 b) (ix4 n o I J) : EReal) = b (ix1 o) := by
    pointwise
  have e00 := tapL_odd 0 0 2 2 slices_S24x96x3x3_S24x96x1x1_0_0_0_0 slices_S2x24x226x226_S2x24x224x224_0_0_0_0 x w n o I J i.val j.val (by decide) (by decide)
    (by show 0 + I.val = _; omega) (by show 0 + J.val = _; omega)
  have e01 := tapL_zero 0 1 slices_S24x96x3x3_S24x96x1x1_0_0_0_1 slices_S2x24x226x226_S2x24x224x224_0_0_0_1 x w n o I J
    (by show (0 + I.val) % 2 = 0 ∨ (1 + J.val) % 2 = 0; omega)
  have e02 := tapL_odd 0 2 2 0 slices_S24x96x3x3_S24x96x1x1_0_0_0_2 slices_S2x24x226x226_S2x24x224x224_0_0_0_2 x w n o I J i.val (j.val + 1) (by decide) (by decide)
    (by show 0 + I.val = _; omega) (by show 2 + J.val = _; omega)
  have e10 := tapL_zero 1 0 slices_S24x96x3x3_S24x96x1x1_0_0_1_0 slices_S2x24x226x226_S2x24x224x224_0_0_1_0 x w n o I J
    (by show (1 + I.val) % 2 = 0 ∨ (0 + J.val) % 2 = 0; omega)
  have e11 := tapL_zero 1 1 slices_S24x96x3x3_S24x96x1x1_0_0_1_1 slices_S2x24x226x226_S2x24x224x224_0_0_1_1 x w n o I J
    (by show (1 + I.val) % 2 = 0 ∨ (1 + J.val) % 2 = 0; omega)
  have e12 := tapL_zero 1 2 slices_S24x96x3x3_S24x96x1x1_0_0_1_2 slices_S2x24x226x226_S2x24x224x224_0_0_1_2 x w n o I J
    (by show (1 + I.val) % 2 = 0 ∨ (2 + J.val) % 2 = 0; omega)
  have e20 := tapL_odd 2 0 0 2 slices_S24x96x3x3_S24x96x1x1_0_0_2_0 slices_S2x24x226x226_S2x24x224x224_0_0_2_0 x w n o I J (i.val + 1) j.val (by decide) (by decide)
    (by show 2 + I.val = _; omega) (by show 0 + J.val = _; omega)
  have e21 := tapL_zero 2 1 slices_S24x96x3x3_S24x96x1x1_0_0_2_1 slices_S2x24x226x226_S2x24x224x224_0_0_2_1 x w n o I J
    (by show (2 + I.val) % 2 = 0 ∨ (1 + J.val) % 2 = 0; omega)
  have e22 := tapL_odd 2 2 0 0 slices_S24x96x3x3_S24x96x1x1_0_0_2_2 slices_S2x24x226x226_S2x24x224x224_0_0_2_2 x w n o I J (i.val + 1) (j.val + 1) (by decide) (by decide)
    (by show 2 + I.val = _; omega) (by show 2 + J.val = _; omega)
  have cg : ∀ {a a' b b' : EReal}, a = a' → b = b' → a + b = a' + b' := fun h h' => by rw [h, h']
  refine (cg (cg (cg (cg (cg (cg (cg (cg (cg e00 e01) e02) e10) e11) e12) e20) e21) e22) hb).trans ?_
  simp only [zero_add, add_zero]

/-! ## The whole reference -/

/-- The low-rank branch's first product, with its bias. -/
def x2pre (x : FVec Ideal S2x96x112x112 .f32) (l1 : FVec Ideal S24x96x1x1 .f32) (lb1 : FVec Ideal S24 .f32) : FVec Ideal S2x24x112x112 .f32 :=
  addf (transpose S2x24x112x112 [1, 0, 2, 3] (Host.dotGeneral dot_S24x96_S2x96x112x112_S24x2x112x112_1_1_0_023_n_n none (shapeCast S24x96 l1 shapeCasts_S24x96x1x1_S24x96) x)
      transposes_S24x2x112x112_S2x24x112x112_1_0_2_3)
    (broadcastInDim S2x24x112x112 ![0, 1, 2, 3] bcast_S1x24x1x1_S2x24x112x112_0_1_2_3 (broadcastInDim S1x24x1x1 ![1] bcast_S24_S1x24x1x1_1 lb1))

theorem x2pre_at (x l1 lb1) (n : Fin 2) (q : Fin 24) (i j : Fin 112) :
    (x2pre x l1 lb1 (ix4 n q i j) : EReal) = (∑ k : Fin 96, (l1 (ix4 q k 0 0) : EReal) * x (ix4 n k i j)) + lb1 (ix1 q) := by
  pointwise [x2pre]

/-- The reference's result over its arguments. -/
def REF (x : FVec Ideal S2x96x112x112 .f32) (mk iv : FVec Ideal S2x1x224x224 .f32) (hw : FVec Ideal S96x96x3x3 .f32) (hb : FVec Ideal S96 .f32)
    (l1 : FVec Ideal S24x96x1x1 .f32) (lb1 : FVec Ideal S24 .f32) (l2 : FVec Ideal S24x96x3x3 .f32) (lb2 : FVec Ideal S96 .f32) : FVec Ideal S2x96x224x224 .f32 :=
  addf (mulf (convH x hw hb) (broadcastInDim S2x96x224x224 ![0, 1, 2, 3] bcast_S2x1x224x224_S2x96x224x224_0_1_2_3 mk))
    (mulf (convL (x2pre x l1 lb1) l2 lb2) (broadcastInDim S2x96x224x224 ![0, 1, 2, 3] bcast_S2x1x224x224_S2x96x224x224_0_1_2_3 iv))

theorem REF_at (x mk iv hw hb l1 lb1 l2 lb2) (n : Fin 2) (o : Fin 96) (I J : Fin 224) :
    (REF x mk iv hw hb l1 lb1 l2 lb2 (ix4 n o I J) : EReal)
      = (convH x hw hb (ix4 n o I J) : EReal) * mk (ix4 n 0 I J) + (convL (x2pre x l1 lb1) l2 lb2 (ix4 n o I J) : EReal) * iv (ix4 n 0 I J) := by
  pointwise [REF]

end Cert.ReferenceIdeal.Value

end
-- ==== Proof.Math.lean ====
/- Extended-real arithmetic where one operand is a real number: differences and blends of it. -/
module

public import Mathlib.Data.EReal.Operations
public import Mathlib.Algebra.BigOperators.Group.Finset.Basic
public import Mathlib.Algebra.BigOperators.Ring.Finset
public import Mathlib.Tactic.Ring
public import Mathlib.Tactic.Linarith

@[expose] public section

noncomputable section

namespace Cert.Math

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A real number times a difference whose subtrahend is real. -/
theorem coe_mul_sub (a l : ℝ) (h : EReal) : (a : EReal) * (h - (l : EReal)) = a * h - ((a * l : ℝ) : EReal) := by
  induction h with
  | bot =>
    rcases lt_trichotomy a 0 with ha | ha | ha
    · rw [EReal.bot_sub, EReal.coe_mul_bot_of_neg ha, EReal.top_sub_coe]
    · subst ha; simp
    · rw [EReal.bot_sub, EReal.coe_mul_bot_of_pos ha, EReal.bot_sub]
  | coe h => rw [← EReal.coe_sub, ← EReal.coe_mul, ← EReal.coe_mul, ← EReal.coe_sub, mul_sub]
  | top =>
    rcases lt_trichotomy a 0 with ha | ha | ha
    · rw [EReal.top_sub_coe, EReal.coe_mul_top_of_neg ha, EReal.bot_sub]
    · subst ha; simp
    · rw [EReal.top_sub_coe, EReal.coe_mul_top_of_pos ha, EReal.top_sub_coe]

/-- Two differences added, the subtrahends real. -/
theorem sub_add_sub_coe (a c : EReal) (b d : ℝ) : (a - (b : EReal)) + (c - (d : EReal)) = (a + c) - ((b + d : ℝ) : EReal) := by
  have h : -((b + d : ℝ) : EReal) = -(b : EReal) + -(d : EReal) := by rw [← EReal.coe_neg, neg_add, EReal.coe_add, EReal.coe_neg, EReal.coe_neg]
  rw [sub_eq_add_neg, sub_eq_add_neg, sub_eq_add_neg, h]
  exact add_add_add_comm a _ c _

theorem sum_sub_coe {ι : Type} (s : Finset ι) (f : ι → EReal) (g : ι → ℝ) :
    ∑ i ∈ s, (f i - (g i : EReal)) = (∑ i ∈ s, f i) - ((∑ i ∈ s, g i : ℝ) : EReal) := by
  classical
  induction s using Finset.induction_on with
  | empty => simp
  | insert a s ha ih => rw [Finset.sum_insert ha, Finset.sum_insert ha, Finset.sum_insert ha, ih, sub_add_sub_coe]

/-- A blend by a real weight, of a real value and of anything. -/
theorem blend_coe (s w : ℝ) (h : EReal) : (s : EReal) + (h - (s : EReal)) * (w : EReal) = h * (w : EReal) + ((s * (1 - w) : ℝ) : EReal) := by
  rw [EReal.mul_comm (h - (s : EReal)), coe_mul_sub, EReal.mul_comm h, sub_eq_add_neg, ← EReal.coe_neg, add_comm, add_assoc, ← EReal.coe_add]
  congr 2
  ring

end Cert.Math

end
-- ==== Proof.Equation.lean ====
/- The kernel's value at a pixel is the reference's: the taps of the kernel's joined weights against the two branches'
   transposed convolutions. -/
module

public import proofs.«01_k».proof.Proof.Host
public import proofs.«01_k».proof.Proof.Point
public import proofs.«01_k».proof.Proof.Ref
public import proofs.«01_k».proof.Proof.Math

@[expose] public section

set_option maxRecDepth 16384

noncomputable section

namespace Cert.Equation

open Cert.KernelIdeal Cert.KernelIdeal.Host Cert.KernelIdeal.Pay Cert.KernelIdeal.Point
open Cert.ReferenceIdeal.Value (zx hs convH convL x2pre x2pre_at REF REF_at)
open Idealize.ShloMosaic Idealize.ShloMosaic.TcCoe Idealize.SL.Sem

/-! ## One tap of the kernel -/

/-- A pixel of the image and its one against one tap's weights and biases. -/
def kt (x : FVec Ideal S2x96x112x112 .f32) (t : FVec Ideal S97x256x3x3 .bf16) (n : Fin 2) (i j : Fin 113) (l : Fin 256) (y z : Fin 3) : EReal :=
  ∑ k : Fin 97, (xPad x (ix4 n i j k) : EReal) * t (ix4 k l y z)

theorem kt_split (x : FVec Ideal S2x96x112x112 .f32) (t : FVec Ideal S97x256x3x3 .bf16) (n : Fin 2) (i j : Fin 113) (l : Fin 256) (y z : Fin 3) :
    kt x t n i j l y z = (∑ k : Fin 96, xz x n k i.val j.val * (t (ix4 ⟨k.val, by omega⟩ l y z) : EReal)) + one i.val j.val * (t (ix4 ⟨96, by omega⟩ l y z) : EReal) := by
  unfold kt
  rw [Fin.sum_univ_castSucc]
  refine congrArg₂ (· + ·) (Finset.sum_congr rfl fun k _ => ?_) ?_
  · exact congrArg (· * (t (ix4 ⟨k.val, by omega⟩ l y z) : EReal)) (xPad_at x n i j k)
  · exact congrArg (· * (t (ix4 ⟨96, by omega⟩ l y z) : EReal)) (xPad_one x n i j)

section groups

variable (x : FVec Ideal S2x96x112x112 .f32) (t : FVec Ideal S97x256x3x3 .bf16) (n : Fin 2) (i j : Fin 112) (l : Fin 256)

theorem tee_eq : tee (xPad x) (g00 t) n i j l = kt x t n ⟨i.val, by omega⟩ ⟨j.val, by omega⟩ l 1 1 := by
  unfold tee tapSum kt
  simp only [g00_0, g00_1, g00_2, g00_3, g01_0, g01_1, g10_0, g10_1, g11_0]

theorem teo_eq : teo (xPad x) (g00 t) (g01 t) n i j l = kt x t n ⟨i.val, by omega⟩ ⟨j.val, by omega⟩ l 1 2 + kt x t n ⟨i.val, by omega⟩ ⟨j.val + 1, by omega⟩ l 1 0 := by
  unfold teo tapSum kt
  simp only [g00_0, g00_1, g00_2, g00_3, g01_0, g01_1, g10_0, g10_1, g11_0]

theorem toe_eq : toe (xPad x) (g00 t) (g10 t) n i j l = kt x t n ⟨i.val, by omega⟩ ⟨j.val, by omega⟩ l 2 1 + kt x t n ⟨i.val + 1, by omega⟩ ⟨j.val, by omega⟩ l 0 1 := by
  unfold toe tapSum kt
  simp only [g00_0, g00_1, g00_2, g00_3, g01_0, g01_1, g10_0, g10_1, g11_0]

theorem too_eq : too (xPad x) (g00 t) (g01 t) (g10 t) (g11 t) n i j l = kt x t n ⟨i.val, by omega⟩ ⟨j.val, by omega⟩ l 2 2 + kt x t n ⟨i.val, by omega⟩ ⟨j.val + 1, by omega⟩ l 2 0 + kt x t n ⟨i.val + 1, by omega⟩ ⟨j.val, by omega⟩ l 0 2 + kt x t n ⟨i.val + 1, by omega⟩ ⟨j.val + 1, by omega⟩ l 0 0 := by
  unfold too tapSum kt
  simp only [g00_0, g00_1, g00_2, g00_3, g01_0, g01_1, g10_0, g10_1, g11_0]

theorem blend_ee (xp : FVec Ideal S2x113x113x97 .bf16) (W00 : FVec Ideal S97x1024 .bf16) (W01 W10 : FVec Ideal S97x512 .bf16) (W11 : FVec Ideal S97x256 .bf16)
    (ms : FVec Ideal S2x2x2x112x112 .f32) (b : Fin 2) (i j : Fin 112) (o : Fin 96) :
    blend xp W00 W01 W10 W11 ms 0 0 b i j o
      = tee xp W00 b i j (lch o) + tee xp W00 b i j (dch o) * (ms (ix5 b 0 0 i j) : EReal) := rfl

theorem blend_eo (xp : FVec Ideal S2x113x113x97 .bf16) (W00 : FVec Ideal S97x1024 .bf16) (W01 W10 : FVec Ideal S97x512 .bf16) (W11 : FVec Ideal S97x256 .bf16)
    (ms : FVec Ideal S2x2x2x112x112 .f32) (b : Fin 2) (i j : Fin 112) (o : Fin 96) :
    blend xp W00 W01 W10 W11 ms 0 1 b i j o
      = teo xp W00 W01 b i j (lch o) + teo xp W00 W01 b i j (dch o) * (ms (ix5 b 0 1 i j) : EReal) := rfl

theorem blend_oe (xp : FVec Ideal S2x113x113x97 .bf16) (W00 : FVec Ideal S97x1024 .bf16) (W01 W10 : FVec Ideal S97x512 .bf16) (W11 : FVec Ideal S97x256 .bf16)
    (ms : FVec Ideal S2x2x2x112x112 .f32) (b : Fin 2) (i j : Fin 112) (o : Fin 96) :
    blend xp W00 W01 W10 W11 ms 1 0 b i j o
      = toe xp W00 W10 b i j (lch o) + toe xp W00 W10 b i j (dch o) * (ms (ix5 b 1 0 i j) : EReal) := rfl

theorem blend_oo (xp : FVec Ideal S2x113x113x97 .bf16) (W00 : FVec Ideal S97x1024 .bf16) (W01 W10 : FVec Ideal S97x512 .bf16) (W11 : FVec Ideal S97x256 .bf16)
    (ms : FVec Ideal S2x2x2x112x112 .f32) (b : Fin 2) (i j : Fin 112) (o : Fin 96) :
    blend xp W00 W01 W10 W11 ms 1 1 b i j o
      = too xp W00 W01 W10 W11 b i j (lch o) + too xp W00 W01 W10 W11 b i j (dch o) * (ms (ix5 b 1 1 i j) : EReal) := rfl

end groups

/-! ## The taps over real operands -/

section

variable (x : FVec Ideal S2x96x112x112 .f32) (hw : FVec Ideal S96x96x3x3 .f32) (hb : FVec Ideal S96 .f32)
  (l1 : FVec Ideal S24x96x1x1 .f32) (lb1 : FVec Ideal S24 .f32) (l2 : FVec Ideal S24x96x3x3 .f32) (lb2 : FVec Ideal S96 .f32)
variable (xr : S2x96x112x112.Idx → ℝ) (l1r : S24x96x1x1.Idx → ℝ) (lb1r : S24.Idx → ℝ) (l2r : S24x96x3x3.Idx → ℝ) (lb2r : S96.Idx → ℝ)

/-- The image's real values, zero past its edges, -/
def rz (n : Fin 2) (k : Fin 96) (i j : ℕ) : ℝ := if h : i < 112 ∧ j < 112 then xr (ix4 n k ⟨i, h.1⟩ ⟨j, h.2⟩) else 0
/-- and one inside the image. -/
def r1 (i j : ℕ) : ℝ := if i < 112 ∧ j < 112 then 1 else 0
/-- A tap of the low-rank branch without its second bias, as a real number. -/
def LR (n : Fin 2) (i j : ℕ) (o : Fin 96) (y z : Fin 3) : ℝ :=
  ∑ q : Fin 24, ((∑ k : Fin 96, l1r (ix4 q k 0 0) * rz xr n k i j) + r1 i j * lb1r (ix1 q)) * l2r (ix4 q o y z)

variable (hx : ∀ i, (x i : EReal) = (xr i : ℝ)) (h1 : ∀ i, (l1 i : EReal) = (l1r i : ℝ)) (hb1 : ∀ i, (lb1 i : EReal) = (lb1r i : ℝ))
  (h2 : ∀ i, (l2 i : EReal) = (l2r i : ℝ)) (hb2 : ∀ i, (lb2 i : EReal) = (lb2r i : ℝ))

theorem one_coe (i j : ℕ) : one i j = ((r1 i j : ℝ) : EReal) := by
  unfold one r1
  split <;> simp

include hx in
theorem xz_coe (n : Fin 2) (k : Fin 96) (i j : ℕ) : xz x n k i j = ((rz xr n k i j : ℝ) : EReal) := by
  unfold xz rz
  split
  · exact hx _
  · simp

include hx h1 hb1 in
theorem zx_coe (n : Fin 2) (q : Fin 24) (i j : ℕ) :
    zx (x2pre x l1 lb1) n q i j = (((∑ k : Fin 96, l1r (ix4 q k 0 0) * rz xr n k i j) + r1 i j * lb1r (ix1 q) : ℝ) : EReal) := by
  unfold zx r1 rz
  split
  · rename_i h
    refine (x2pre_at x l1 lb1 n q ⟨i, h.1⟩ ⟨j, h.2⟩).trans ?_
    rw [EReal.coe_add, Cert.Math.coe_sum, one_mul, hb1]
    simp only [h1, hx, EReal.coe_mul]
  · simp

include hx h1 hb1 h2 in
theorem hs_coe (n : Fin 2) (i j : ℕ) (o : Fin 96) (y z : Fin 3) :
    hs (x2pre x l1 lb1) l2 n o y z i j = ((LR xr l1r lb1r l2r n i j o y z : ℝ) : EReal) := by
  unfold hs LR
  rw [Cert.Math.coe_sum]
  refine Finset.sum_congr rfl fun q _ => ?_
  rw [zx_coe x l1 lb1 xr l1r lb1r hx h1 hb1, h2, EReal.coe_mul]

/-- The real numbers of the joined low-rank weights and of their bias row. -/
theorem wEff_coe (h1 : ∀ i, (l1 i : EReal) = (l1r i : ℝ)) (h2 : ∀ i, (l2 i : EReal) = (l2r i : ℝ)) (k o : Fin 96) (y z : Fin 3) :
    (wEff l1 l2 (ix4 k o y z) : EReal) = ((∑ q : Fin 24, l1r (ix4 q k 0 0) * l2r (ix4 q o y z) : ℝ) : EReal) := by
  refine (wEff_at l1 l2 k o y z).trans ?_
  rw [Cert.Math.coe_sum]
  exact Finset.sum_congr rfl fun q _ => by rw [h1, h2, EReal.coe_mul]

/-- One at the taps that carry a bias. -/
def flr (y z : Fin 3) : ℝ := if y.val = 0 ∨ z.val = 0 then 0 else 1

theorem fl_coe (y z : Fin 3) : (fl (ix2 y z) : EReal) = ((flr y z : ℝ) : EReal) := by
  refine (fl_at y z).trans ?_
  unfold flr
  split <;> simp

theorem lowRow_coe (hb1 : ∀ i, (lb1 i : EReal) = (lb1r i : ℝ)) (h2 : ∀ i, (l2 i : EReal) = (l2r i : ℝ)) (hb2 : ∀ i, (lb2 i : EReal) = (lb2r i : ℝ))
    (o : Fin 96) (y z : Fin 3) :
    (lowRow lb1 l2 lb2 (ix3 o y z) : EReal) = (((∑ q : Fin 24, lb1r (ix1 q) * l2r (ix4 q o y z)) + lb2r (ix1 o) * flr y z : ℝ) : EReal) := by
  refine (lowRow_at lb1 l2 lb2 o y z).trans ?_
  rw [EReal.coe_add, Cert.Math.coe_sum, EReal.coe_mul, hb2, fl_coe]
  refine congrArg (· + _) (Finset.sum_congr rfl fun q _ => ?_)
  rw [hb1, h2, EReal.coe_mul]

/-- A tap of the joined low-rank weights is the tap of the two products one after the other, and the second bias. -/
theorem swap (n : Fin 2) (i j : ℕ) (o : Fin 96) (y z : Fin 3) :
    (∑ k : Fin 96, rz xr n k i j * ∑ q : Fin 24, l1r (ix4 q k 0 0) * l2r (ix4 q o y z))
        + r1 i j * ((∑ q : Fin 24, lb1r (ix1 q) * l2r (ix4 q o y z)) + lb2r (ix1 o) * flr y z)
      = LR xr l1r lb1r l2r n i j o y z + r1 i j * (lb2r (ix1 o) * flr y z) := by
  unfold LR
  rw [mul_add, ← add_assoc]
  refine congrArg (· + _) ?_
  simp only [Finset.mul_sum, add_mul, Finset.sum_mul, Finset.sum_add_distrib]
  rw [Finset.sum_comm]
  refine congrArg₂ (· + ·) (Finset.sum_congr rfl fun q _ => Finset.sum_congr rfl fun k _ => ?_) (Finset.sum_congr rfl fun q _ => ?_)
  · ring
  · ring

/-- The kernel's joined taps. -/
abbrev T : FVec Ideal S97x256x3x3 .bf16 := t9 hw hb l1 lb1 l2 lb2

include hx h1 hb1 h2 hb2 in
theorem kt_low (n : Fin 2) (i j : Fin 113) (o : Fin 96) (y z : Fin 3) :
    kt x (T hw hb l1 lb1 l2 lb2) n i j (lch o) y z
      = ((LR xr l1r lb1r l2r n i.val j.val o y z + r1 i.val j.val * (lb2r (ix1 o) * flr y z) : ℝ) : EReal) := by
  rw [kt_split, ← swap, EReal.coe_add, Cert.Math.coe_sum]
  refine congrArg₂ (· + ·) (Finset.sum_congr rfl fun k _ => ?_) ?_
  · rw [EReal.coe_mul, xz_coe x xr hx]
    refine congrArg (_ * ·) (Eq.trans ?_ (wEff_coe l1 l2 l1r l2r h1 h2 k o y z))
    exact (padded_l _ ⟨k.val, by omega⟩ o y z).trans (stack_l _ _ _ _ k o y z)
  · rw [EReal.coe_mul, one_coe]
    refine congrArg (_ * ·) (Eq.trans ?_ (lowRow_coe lb1 l2 lb2 lb1r l2r lb2r hb1 h2 hb2 o y z))
    exact (padded_l _ ⟨96, by omega⟩ o y z).trans (stack_bl _ _ _ _ o y z)

include hx h1 hb1 h2 hb2 in
theorem kt_dif (n : Fin 2) (i j : Fin 113) (o : Fin 96) (y z : Fin 3) :
    kt x (T hw hb l1 lb1 l2 lb2) n i j (dch o) y z
      = (hs x hw n o y z i.val j.val + one i.val j.val * ((hb (ix1 o) : EReal) * fl (ix2 y z)))
        - ((LR xr l1r lb1r l2r n i.val j.val o y z + r1 i.val j.val * (lb2r (ix1 o) * flr y z) : ℝ) : EReal) := by
  rw [kt_split, ← swap, ← Cert.Math.sub_add_sub_coe]
  refine congrArg₂ (· + ·) ?_ ?_
  · unfold hs
    rw [← Cert.Math.sum_sub_coe]
    refine Finset.sum_congr rfl fun k _ => ?_
    have hz : zx x n k i.val j.val = ((rz xr n k i.val j.val : ℝ) : EReal) := xz_coe x xr hx n k i.val j.val
    rw [xz_coe x xr hx, hz, ← Cert.Math.coe_mul_sub, ← wEff_coe l1 l2 l1r l2r h1 h2 k o y z]
    refine congrArg (_ * ·) ?_
    exact (padded_d _ ⟨k.val, by omega⟩ o y z).trans (stack_d _ _ _ _ k o y z)
  · rw [one_coe, ← Cert.Math.coe_mul_sub, ← lowRow_coe lb1 l2 lb2 lb1r l2r lb2r hb1 h2 hb2 o y z]
    refine congrArg (_ * ·) ?_
    refine (padded_d _ ⟨96, by omega⟩ o y z).trans ((stack_bd _ _ _ _ o y z).trans ?_)
    rw [row_at]

/-! A tap carries the biases or not. -/

include hx h1 hb1 h2 hb2 in
theorem low0 (n : Fin 2) (i j : Fin 113) (o : Fin 96) (y z : Fin 3) (h : y.val = 0 ∨ z.val = 0) :
    kt x (T hw hb l1 lb1 l2 lb2) n i j (lch o) y z = ((LR xr l1r lb1r l2r n i.val j.val o y z : ℝ) : EReal) := by
  rw [kt_low x hw hb l1 lb1 l2 lb2 xr l1r lb1r l2r lb2r hx h1 hb1 h2 hb2, flr, if_pos h, mul_zero, mul_zero, add_zero]

include hx h1 hb1 h2 hb2 in
theorem low1 (n : Fin 2) (i j : Fin 113) (o : Fin 96) (y z : Fin 3) (h : ¬(y.val = 0 ∨ z.val = 0)) (hi : i.val < 112 ∧ j.val < 112) :
    kt x (T hw hb l1 lb1 l2 lb2) n i j (lch o) y z = ((LR xr l1r lb1r l2r n i.val j.val o y z + lb2r (ix1 o) : ℝ) : EReal) := by
  rw [kt_low x hw hb l1 lb1 l2 lb2 xr l1r lb1r l2r lb2r hx h1 hb1 h2 hb2, flr, if_neg h, r1, if_pos hi, mul_one, one_mul]

include hx h1 hb1 h2 hb2 in
theorem dif0 (n : Fin 2) (i j : Fin 113) (o : Fin 96) (y z : Fin 3) (h : y.val = 0 ∨ z.val = 0) :
    kt x (T hw hb l1 lb1 l2 lb2) n i j (dch o) y z = hs x hw n o y z i.val j.val - ((LR xr l1r lb1r l2r n i.val j.val o y z : ℝ) : EReal) := by
  rw [kt_dif x hw hb l1 lb1 l2 lb2 xr l1r lb1r l2r lb2r hx h1 hb1 h2 hb2, fl_coe, flr, if_pos h, mul_zero, mul_zero, add_zero, EReal.coe_zero, mul_zero, mul_zero, add_zero]

include hx h1 hb1 h2 hb2 in
theorem dif1 (n : Fin 2) (i j : Fin 113) (o : Fin 96) (y z : Fin 3) (h : ¬(y.val = 0 ∨ z.val = 0)) (hi : i.val < 112 ∧ j.val < 112) :
    kt x (T hw hb l1 lb1 l2 lb2) n i j (dch o) y z
      = (hs x hw n o y z i.val j.val + (hb (ix1 o) : EReal)) - ((LR xr l1r lb1r l2r n i.val j.val o y z + lb2r (ix1 o) : ℝ) : EReal) := by
  rw [kt_dif x hw hb l1 lb1 l2 lb2 xr l1r lb1r l2r lb2r hx h1 hb1 h2 hb2, fl_coe, flr, if_neg h, one, r1, if_pos hi, if_pos hi, mul_one, one_mul, EReal.coe_one, mul_one, one_mul]

/-! ## The four parities -/

variable (mk iv : FVec Ideal S2x1x224x224 .f32) (mr : S2x1x224x224.Idx → ℝ) (hm : ∀ i, (mk i : EReal) = (mr i : ℝ))
  (hi : ∀ i, (iv i : EReal) = ((1 - mr i : ℝ) : EReal))

/-- A blend of the two branches, one value real. -/
theorem finish (S w : ℝ) (D H : EReal) (Lo : EReal) (hD : D = H - (S : EReal)) (hL : Lo = (S : EReal)) (mv iw : EReal) (hmv : mv = (w : EReal)) (hiw : iw = ((1 - w : ℝ) : EReal)) :
    Lo + D * mv = H * mv + (S : EReal) * iw := by
  rw [hD, hL, hmv, hiw, Cert.Math.blend_coe, EReal.coe_mul]

include hx h1 hb1 h2 hb2 hm hi in
theorem eq_ee (b : Fin 2) (i j : Fin 112) (o : Fin 96) (I J : Fin 224) (hI : I.val = 2 * i.val + 0) (hJ : J.val = 2 * j.val + 0) :
    blend (xPad x) (g00 (T hw hb l1 lb1 l2 lb2)) (g01 (T hw hb l1 lb1 l2 lb2)) (g10 (T hw hb l1 lb1 l2 lb2)) (g11 (T hw hb l1 lb1 l2 lb2)) (mSplit mk) 0 0 b i j o
      = REF x mk iv hw hb l1 lb1 l2 lb2 (ix4 b o I J) := by
  have hms : (mSplit mk (ix5 b 0 0 i j) : EReal) = mk (ix4 b 0 I J) := by
    refine (mSplit_at mk b 0 0 i j).trans (congrArg mk ((ix4_inj ..).2 ⟨rfl, rfl, Fin.ext ?_, Fin.ext ?_⟩))
    · show i.val * 2 + 0 = I.val; omega
    · show j.val * 2 + 0 = J.val; omega
  have hlow : tee (xPad x) (g00 (T hw hb l1 lb1 l2 lb2)) b i j (lch o) = (((LR xr l1r lb1r l2r b i.val j.val o 1 1 + lb2r (ix1 o)) : ℝ) : EReal) := by
    rw [tee_eq, low1 x hw hb l1 lb1 l2 lb2 xr l1r lb1r l2r lb2r hx h1 hb1 h2 hb2 b ⟨i.val, by omega⟩ ⟨j.val, by omega⟩ o 1 1 (by decide) ⟨i.isLt, j.isLt⟩]
  have hdif : tee (xPad x) (g00 (T hw hb l1 lb1 l2 lb2)) b i j (dch o)
      = ((hs x hw b o 1 1 i.val j.val + (hb (ix1 o) : EReal))) - (((LR xr l1r lb1r l2r b i.val j.val o 1 1 + lb2r (ix1 o)) : ℝ) : EReal) := by
    rw [tee_eq, dif1 x hw hb l1 lb1 l2 lb2 xr l1r lb1r l2r lb2r hx h1 hb1 h2 hb2 b ⟨i.val, by omega⟩ ⟨j.val, by omega⟩ o 1 1 (by decide) ⟨i.isLt, j.isLt⟩]
  have hcH : (convH x hw hb (ix4 b o I J) : EReal) = (hs x hw b o 1 1 i.val j.val + (hb (ix1 o) : EReal)) := by
    rw [Cert.ReferenceIdeal.Value.convH_ee x hw hb b o i j I J hI hJ]
  have hcL : (convL (x2pre x l1 lb1) l2 lb2 (ix4 b o I J) : EReal) = (((LR xr l1r lb1r l2r b i.val j.val o 1 1 + lb2r (ix1 o)) : ℝ) : EReal) := by
    rw [Cert.ReferenceIdeal.Value.convL_ee (x2pre x l1 lb1) l2 lb2 b o i j I J hI hJ]
    simp only [hs_coe x l1 lb1 l2 xr l1r lb1r l2r hx h1 hb1 h2, hb2, ← EReal.coe_add]
  refine Eq.trans ?_ (REF_at x mk iv hw hb l1 lb1 l2 lb2 b o I J).symm
  rw [hcH, hcL]
  rw [blend_ee, hms]
  exact finish _ (mr (ix4 b 0 I J)) _ _ _ hdif hlow _ _ (hm _) (hi _)

include hx h1 hb1 h2 hb2 hm hi in
theorem eq_eo (b : Fin 2) (i j : Fin 112) (o : Fin 96) (I J : Fin 224) (hI : I.val = 2 * i.val + 0) (hJ : J.val = 2 * j.val + 1) :
    blend (xPad x) (g00 (T hw hb l1 lb1 l2 lb2)) (g01 (T hw hb l1 lb1 l2 lb2)) (g10 (T hw hb l1 lb1 l2 lb2)) (g11 (T hw hb l1 lb1 l2 lb2)) (mSplit mk) 0 1 b i j o
      = REF x mk iv hw hb l1 lb1 l2 lb2 (ix4 b o I J) := by
  have hms : (mSplit mk (ix5 b 0 1 i j) : EReal) = mk (ix4 b 0 I J) := by
    refine (mSplit_at mk b 0 1 i j).trans (congrArg mk ((ix4_inj ..).2 ⟨rfl, rfl, Fin.ext ?_, Fin.ext ?_⟩))
    · show i.val * 2 + 0 = I.val; omega
    · show j.val * 2 + 1 = J.val; omega
  have hlow : teo (xPad x) (g00 (T hw hb l1 lb1 l2 lb2)) (g01 (T hw hb l1 lb1 l2 lb2)) b i j (lch o) = (((LR xr l1r lb1r l2r b i.val j.val o 1 2 + lb2r (ix1 o)) + LR xr l1r lb1r l2r b i.val (j.val + 1) o 1 0 : ℝ) : EReal) := by
    rw [teo_eq, low1 x hw hb l1 lb1 l2 lb2 xr l1r lb1r l2r lb2r hx h1 hb1 h2 hb2 b ⟨i.val, by omega⟩ ⟨j.val, by omega⟩ o 1 2 (by decide) ⟨i.isLt, j.isLt⟩, low0 x hw hb l1 lb1 l2 lb2 xr l1r lb1r l2r lb2r hx h1 hb1 h2 hb2 b ⟨i.val, by omega⟩ ⟨j.val + 1, by omega⟩ o 1 0 (by decide)]
    simp only [EReal.coe_add]
  have hdif : teo (xPad x) (g00 (T hw hb l1 lb1 l2 lb2)) (g01 (T hw hb l1 lb1 l2 lb2)) b i j (dch o)
      = ((hs x hw b o 1 2 i.val j.val + (hb (ix1 o) : EReal)) + hs x hw b o 1 0 i.val (j.val + 1)) - (((LR xr l1r lb1r l2r b i.val j.val o 1 2 + lb2r (ix1 o)) + LR xr l1r lb1r l2r b i.val (j.val + 1) o 1 0 : ℝ) : EReal) := by
    rw [teo_eq, dif1 x hw hb l1 lb1 l2 lb2 xr l1r lb1r l2r lb2r hx h1 hb1 h2 hb2 b ⟨i.val, by omega⟩ ⟨j.val, by omega⟩ o 1 2 (by decide) ⟨i.isLt, j.isLt⟩, dif0 x hw hb l1 lb1 l2 lb2 xr l1r lb1r l2r lb2r hx h1 hb1 h2 hb2 b ⟨i.val, by omega⟩ ⟨j.val + 1, by omega⟩ o 1 0 (by decide)]
    simp only [Cert.Math.sub_add_sub_coe]
  have hcH : (convH x hw hb (ix4 b o I J) : EReal) = (hs x hw b o 1 2 i.val j.val + (hb (ix1 o) : EReal)) + hs x hw b o 1 0 i.val (j.val + 1) := by
    rw [Cert.ReferenceIdeal.Value.convH_eo x hw hb b o i j I J hI hJ]
    ac_rfl
  have hcL : (convL (x2pre x l1 lb1) l2 lb2 (ix4 b o I J) : EReal) = (((LR xr l1r lb1r l2r b i.val j.val o 1 2 + lb2r (ix1 o)) + LR xr l1r lb1r l2r b i.val (j.val + 1) o 1 0 : ℝ) : EReal) := by
    rw [Cert.ReferenceIdeal.Value.convL_eo (x2pre x l1 lb1) l2 lb2 b o i j I J hI hJ]
    simp only [hs_coe x l1 lb1 l2 xr l1r lb1r l2r hx h1 hb1 h2, hb2, ← EReal.coe_add]
    congr 1
    ring
  refine Eq.trans ?_ (REF_at x mk iv hw hb l1 lb1 l2 lb2 b o I J).symm
  rw [hcH, hcL]
  rw [blend_eo, hms]
  exact finish _ (mr (ix4 b 0 I J)) _ _ _ hdif hlow _ _ (hm _) (hi _)

include hx h1 hb1 h2 hb2 hm hi in
theorem eq_oe (b : Fin 2) (i j : Fin 112) (o : Fin 96) (I J : Fin 224) (hI : I.val = 2 * i.val + 1) (hJ : J.val = 2 * j.val + 0) :
    blend (xPad x) (g00 (T hw hb l1 lb1 l2 lb2)) (g01 (T hw hb l1 lb1 l2 lb2)) (g10 (T hw hb l1 lb1 l2 lb2)) (g11 (T hw hb l1 lb1 l2 lb2)) (mSplit mk) 1 0 b i j o
      = REF x mk iv hw hb l1 lb1 l2 lb2 (ix4 b o I J) := by
  have hms : (mSplit mk (ix5 b 1 0 i j) : EReal) = mk (ix4 b 0 I J) := by
    refine (mSplit_at mk b 1 0 i j).trans (congrArg mk ((ix4_inj ..).2 ⟨rfl, rfl, Fin.ext ?_, Fin.ext ?_⟩))
    · show i.val * 2 + 1 = I.val; omega
    · show j.val * 2 + 0 = J.val; omega
  have hlow : toe (xPad x) (g00 (T hw hb l1 lb1 l2 lb2)) (g10 (T hw hb l1 lb1 l2 lb2)) b i j (lch o) = (((LR xr l1r lb1r l2r b i.val j.val o 2 1 + lb2r (ix1 o)) + LR xr l1r lb1r l2r b (i.val + 1) j.val o 0 1 : ℝ) : EReal) := by
    rw [toe_eq, low1 x hw hb l1 lb1 l2 lb2 xr l1r lb1r l2r lb2r hx h1 hb1 h2 hb2 b ⟨i.val, by omega⟩ ⟨j.val, by omega⟩ o 2 1 (by decide) ⟨i.isLt, j.isLt⟩, low0 x hw hb l1 lb1 l2 lb2 xr l1r lb1r l2r lb2r hx h1 hb1 h2 hb2 b ⟨i.val + 1, by omega⟩ ⟨j.val, by omega⟩ o 0 1 (by decide)]
    simp only [EReal.coe_add]
  have hdif : toe (xPad x) (g00 (T hw hb l1 lb1 l2 lb2)) (g10 (T hw hb l1 lb1 l2 lb2)) b i j (dch o)
      = ((hs x hw b o 2 1 i.val j.val + (hb (ix1 o) : EReal)) + hs x hw b o 0 1 (i.val + 1) j.val) - (((LR xr l1r lb1r l2r b i.val j.val o 2 1 + lb2r (ix1 o)) + LR xr l1r lb1r l2r b (i.val + 1) j.val o 0 1 : ℝ) : EReal) := by
    rw [toe_eq, dif1 x hw hb l1 lb1 l2 lb2 xr l1r lb1r l2r lb2r hx h1 hb1 h2 hb2 b ⟨i.val, by omega⟩ ⟨j.val, by omega⟩ o 2 1 (by decide) ⟨i.isLt, j.isLt⟩, dif0 x hw hb l1 lb1 l2 lb2 xr l1r lb1r l2r lb2r hx h1 hb1 h2 hb2 b ⟨i.val + 1, by omega⟩ ⟨j.val, by omega⟩ o 0 1 (by decide)]
    simp only [Cert.Math.sub_add_sub_coe]
  have hcH : (convH x hw hb (ix4 b o I J) : EReal) = (hs x hw b o 2 1 i.val j.val + (hb (ix1 o) : EReal)) + hs x hw b o 0 1 (i.val + 1) j.val := by
    rw [Cert.ReferenceIdeal.Value.convH_oe x hw hb b o i j I J hI hJ]
    ac_rfl
  have hcL : (convL (x2pre x l1 lb1) l2 lb2 (ix4 b o I J) : EReal) = (((LR xr l1r lb1r l2r b i.val j.val o 2 1 + lb2r (ix1 o)) + LR xr l1r lb1r l2r b (i.val + 1) j.val o 0 1 : ℝ) : EReal) := by
    rw [Cert.ReferenceIdeal.Value.convL_oe (x2pre x l1 lb1) l2 lb2 b o i j I J hI hJ]
    simp only [hs_coe x l1 lb1 l2 xr l1r lb1r l2r hx h1 hb1 h2, hb2, ← EReal.coe_add]
    congr 1
    ring
  refine Eq.trans ?_ (REF_at x mk iv hw hb l1 lb1 l2 lb2 b o I J).symm
  rw [hcH, hcL]
  rw [blend_oe, hms]
  exact finish _ (mr (ix4 b 0 I J)) _ _ _ hdif hlow _ _ (hm _) (hi _)

include hx h1 hb1 h2 hb2 hm hi in
theorem eq_oo (b : Fin 2) (i j : Fin 112) (o : Fin 96) (I J : Fin 224) (hI : I.val = 2 * i.val + 1) (hJ : J.val = 2 * j.val + 1) :
    blend (xPad x) (g00 (T hw hb l1 lb1 l2 lb2)) (g01 (T hw hb l1 lb1 l2 lb2)) (g10 (T hw hb l1 lb1 l2 lb2)) (g11 (T hw hb l1 lb1 l2 lb2)) (mSplit mk) 1 1 b i j o
      = REF x mk iv hw hb l1 lb1 l2 lb2 (ix4 b o I J) := by
  have hms : (mSplit mk (ix5 b 1 1 i j) : EReal) = mk (ix4 b 0 I J) := by
    refine (mSplit_at mk b 1 1 i j).trans (congrArg mk ((ix4_inj ..).2 ⟨rfl, rfl, Fin.ext ?_, Fin.ext ?_⟩))
    · show i.val * 2 + 1 = I.val; omega
    · show j.val * 2 + 1 = J.val; omega
  have hlow : too (xPad x) (g00 (T hw hb l1 lb1 l2 lb2)) (g01 (T hw hb l1 lb1 l2 lb2)) (g10 (T hw hb l1 lb1 l2 lb2)) (g11 (T hw hb l1 lb1 l2 lb2)) b i j (lch o) = (((LR xr l1r lb1r l2r b i.val j.val o 2 2 + lb2r (ix1 o)) + LR xr l1r lb1r l2r b i.val (j.val + 1) o 2 0 + LR xr l1r lb1r l2r b (i.val + 1) j.val o 0 2 + LR xr l1r lb1r l2r b (i.val + 1) (j.val + 1) o 0 0 : ℝ) : EReal) := by
    rw [too_eq, low1 x hw hb l1 lb1 l2 lb2 xr l1r lb1r l2r lb2r hx h1 hb1 h2 hb2 b ⟨i.val, by omega⟩ ⟨j.val, by omega⟩ o 2 2 (by decide) ⟨i.isLt, j.isLt⟩, low0 x hw hb l1 lb1 l2 lb2 xr l1r lb1r l2r lb2r hx h1 hb1 h2 hb2 b ⟨i.val, by omega⟩ ⟨j.val + 1, by omega⟩ o 2 0 (by decide), low0 x hw hb l1 lb1 l2 lb2 xr l1r lb1r l2r lb2r hx h1 hb1 h2 hb2 b ⟨i.val + 1, by omega⟩ ⟨j.val, by omega⟩ o 0 2 (by decide), low0 x hw hb l1 lb1 l2 lb2 xr l1r lb1r l2r lb2r hx h1 hb1 h2 hb2 b ⟨i.val + 1, by omega⟩ ⟨j.val + 1, by omega⟩ o 0 0 (by decide)]
    simp only [EReal.coe_add]
  have hdif : too (xPad x) (g00 (T hw hb l1 lb1 l2 lb2)) (g01 (T hw hb l1 lb1 l2 lb2)) (g10 (T hw hb l1 lb1 l2 lb2)) (g11 (T hw hb l1 lb1 l2 lb2)) b i j (dch o)
      = ((hs x hw b o 2 2 i.val j.val + (hb (ix1 o) : EReal)) + hs x hw b o 2 0 i.val (j.val + 1) + hs x hw b o 0 2 (i.val + 1) j.val + hs x hw b o 0 0 (i.val + 1) (j.val + 1)) - (((LR xr l1r lb1r l2r b i.val j.val o 2 2 + lb2r (ix1 o)) + LR xr l1r lb1r l2r b i.val (j.val + 1) o 2 0 + LR xr l1r lb1r l2r b (i.val + 1) j.val o 0 2 + LR xr l1r lb1r l2r b (i.val + 1) (j.val + 1) o 0 0 : ℝ) : EReal) := by
    rw [too_eq, dif1 x hw hb l1 lb1 l2 lb2 xr l1r lb1r l2r lb2r hx h1 hb1 h2 hb2 b ⟨i.val, by omega⟩ ⟨j.val, by omega⟩ o 2 2 (by decide) ⟨i.isLt, j.isLt⟩, dif0 x hw hb l1 lb1 l2 lb2 xr l1r lb1r l2r lb2r hx h1 hb1 h2 hb2 b ⟨i.val, by omega⟩ ⟨j.val + 1, by omega⟩ o 2 0 (by decide), dif0 x hw hb l1 lb1 l2 lb2 xr l1r lb1r l2r lb2r hx h1 hb1 h2 hb2 b ⟨i.val + 1, by omega⟩ ⟨j.val, by omega⟩ o 0 2 (by decide), dif0 x hw hb l1 lb1 l2 lb2 xr l1r lb1r l2r lb2r hx h1 hb1 h2 hb2 b ⟨i.val + 1, by omega⟩ ⟨j.val + 1, by omega⟩ o 0 0 (by decide)]
    simp only [Cert.Math.sub_add_sub_coe]
  have hcH : (convH x hw hb (ix4 b o I J) : EReal) = (hs x hw b o 2 2 i.val j.val + (hb (ix1 o) : EReal)) + hs x hw b o 2 0 i.val (j.val + 1) + hs x hw b o 0 2 (i.val + 1) j.val + hs x hw b o 0 0 (i.val + 1) (j.val + 1) := by
    rw [Cert.ReferenceIdeal.Value.convH_oo x hw hb b o i j I J hI hJ]
    ac_rfl
  have hcL : (convL (x2pre x l1 lb1) l2 lb2 (ix4 b o I J) : EReal) = (((LR xr l1r lb1r l2r b i.val j.val o 2 2 + lb2r (ix1 o)) + LR xr l1r lb1r l2r b i.val (j.val + 1) o 2 0 + LR xr l1r lb1r l2r b (i.val + 1) j.val o 0 2 + LR xr l1r lb1r l2r b (i.val + 1) (j.val + 1) o 0 0 : ℝ) : EReal) := by
    rw [Cert.ReferenceIdeal.Value.convL_oo (x2pre x l1 lb1) l2 lb2 b o i j I J hI hJ]
    simp only [hs_coe x l1 lb1 l2 xr l1r lb1r l2r hx h1 hb1 h2, hb2, ← EReal.coe_add]
    congr 1
    ring
  refine Eq.trans ?_ (REF_at x mk iv hw hb l1 lb1 l2 lb2 b o I J).symm
  rw [hcH, hcL]
  rw [blend_oo, hms]
  exact finish _ (mr (ix4 b 0 I J)) _ _ _ hdif hlow _ _ (hm _) (hi _)

include hx h1 hb1 h2 hb2 hm hi in
/-- At every pixel the kernel's value is the reference's. -/
theorem G_eq (b : Fin 2) (o : Fin 96) (I J : Fin 224) :
    G (xPad x) (g00 (T hw hb l1 lb1 l2 lb2)) (g01 (T hw hb l1 lb1 l2 lb2)) (g10 (T hw hb l1 lb1 l2 lb2)) (g11 (T hw hb l1 lb1 l2 lb2)) (mSplit mk) (ix4 b I J o)
      = REF x mk iv hw hb l1 lb1 l2 lb2 (ix4 b o I J) := by
  rcases Nat.mod_two_eq_zero_or_one I.val with hp | hp <;> rcases Nat.mod_two_eq_zero_or_one J.val with hq | hq
  · refine (G_at _ _ _ _ _ _ 0 0 b ⟨I.val / 2, by omega⟩ ⟨J.val / 2, by omega⟩ o _ rfl ?_ ?_ rfl).trans
      (eq_ee x hw hb l1 lb1 l2 lb2 xr l1r lb1r l2r lb2r hx h1 hb1 h2 hb2 mk iv mr hm hi b _ _ o I J ?_ ?_)
    · show I.val = 2 * (I.val / 2) + 0; omega
    · show J.val = 2 * (J.val / 2) + 0; omega
    · show I.val = 2 * (I.val / 2) + 0; omega
    · show J.val = 2 * (J.val / 2) + 0; omega
  · refine (G_at _ _ _ _ _ _ 0 1 b ⟨I.val / 2, by omega⟩ ⟨J.val / 2, by omega⟩ o _ rfl ?_ ?_ rfl).trans
      (eq_eo x hw hb l1 lb1 l2 lb2 xr l1r lb1r l2r lb2r hx h1 hb1 h2 hb2 mk iv mr hm hi b _ _ o I J ?_ ?_)
    · show I.val = 2 * (I.val / 2) + 0; omega
    · show J.val = 2 * (J.val / 2) + 1; omega
    · show I.val = 2 * (I.val / 2) + 0; omega
    · show J.val = 2 * (J.val / 2) + 1; omega
  · refine (G_at _ _ _ _ _ _ 1 0 b ⟨I.val / 2, by omega⟩ ⟨J.val / 2, by omega⟩ o _ rfl ?_ ?_ rfl).trans
      (eq_oe x hw hb l1 lb1 l2 lb2 xr l1r lb1r l2r lb2r hx h1 hb1 h2 hb2 mk iv mr hm hi b _ _ o I J ?_ ?_)
    · show I.val = 2 * (I.val / 2) + 1; omega
    · show J.val = 2 * (J.val / 2) + 0; omega
    · show I.val = 2 * (I.val / 2) + 1; omega
    · show J.val = 2 * (J.val / 2) + 0; omega
  · refine (G_at _ _ _ _ _ _ 1 1 b ⟨I.val / 2, by omega⟩ ⟨J.val / 2, by omega⟩ o _ rfl ?_ ?_ rfl).trans
      (eq_oo x hw hb l1 lb1 l2 lb2 xr l1r lb1r l2r lb2r hx h1 hb1 h2 hb2 mk iv mr hm hi b _ _ o I J ?_ ?_)
    · show I.val = 2 * (I.val / 2) + 1; omega
    · show J.val = 2 * (J.val / 2) + 1; omega
    · show I.val = 2 * (I.val / 2) + 1; omega
    · show J.val = 2 * (J.val / 2) + 1; omega

end

end Cert.Equation

end
-- ==== Proof.Final.lean ====
/- The array of the kernel's output window after the run. -/
module

public import proofs.«01_k».proof.Proof.Point

@[expose] public section

set_option maxRecDepth 16384

noncomputable section

namespace Cert.KernelIdeal.Point

open Cert.KernelIdeal Cert.KernelIdeal.Gen Cert.KernelIdeal.Body Cert.KernelIdeal.Pay
open Idealize.ShloMosaic Idealize.ShloMosaic.TcCoe Idealize.SL.Sem
open Idealize.ShloMosaic.Pipeline (Dat)

variable (m : (ℓ : Loc nD τ sig) → Buf (Elt Ideal) ℓ)

/-- The row of the small image that row `i` of grid point `t` is, -/
abbrev gi (t : Fin cfg0.N) (i : Fin 16) : Fin 112 := ⟨16 * (grid0.coords t 1).val + i.val, by have := lt1 t; omega⟩
/-- and the image of the batch it works on. -/
abbrev gb (t : Fin cfg0.N) : Fin 2 := ⟨(grid0.coords t 0).val, lt0 t⟩

section

variable (c : Dev nD) (t : Fin cfg0.N) (i : Fin 16) (j : Fin 112)

theorem mm0 {n : ℕ} (r : Fin 2) (W : FVec Ideal ⟨2, ![97, n]⟩ .bf16) (l : Fin n) :
    mm (View.ld (Val := Elt Ideal) (e' := .bf16) (iblk m c 0 t) (rx0 (grid0.coords t) r)) W i j l
      = tapSum (V m c main_v49) W (gb t) ⟨(gi t i).val + r.val, by have := lt1 t; omega⟩ ⟨j.val, by omega⟩ l := by
  unfold mm tapSum
  exact Finset.sum_congr rfl fun k _ => congrArg (· * (W (ix2 k l) : EReal)) ((ld_rx0 _ _ r i j k (lt1 t)).trans (blk0 m c t _ _ k))

theorem mm1 {n : ℕ} (r : Fin 2) (W : FVec Ideal ⟨2, ![97, n]⟩ .bf16) (l : Fin n) :
    mm (View.ld (Val := Elt Ideal) (e' := .bf16) (iblk m c 0 t) (rx1 (grid0.coords t) r)) W i j l
      = tapSum (V m c main_v49) W (gb t) ⟨(gi t i).val + r.val, by have := lt1 t; omega⟩ ⟨j.val + 1, by omega⟩ l := by
  unfold mm tapSum
  exact Finset.sum_congr rfl fun k _ => congrArg (· * (W (ix2 k l) : EReal)) ((ld_rx1 _ _ r i j k (lt1 t)).trans (blk0 m c t _ _ k))

end

/-! ## The four pieces -/

section

variable (c : Dev nD) (t : Fin cfg0.N) (i : Fin 16) (j : Fin 112) (o : Fin 96)

theorem pee : ((k0_pay10 (k0_pay4 (F := Ideal) (View.ld (Val := Elt Ideal) (e' := .bf16) (iblk m c 0 t) (rx0 (grid0.coords t) 0)) (View.ld (Val := Elt Ideal) (e' := .bf16) (iblk m c 2 t) rg00)) (View.ld (Val := Elt Ideal) (e' := .bf16) (iblk m c 1 t) rm00) : FVec Ideal S1x16x112x96 .f32) (ix4 0 i j o) : EReal)
      = blend (V m c main_v49) (V m c main_v32) (V m c main_v37) (V m c main_v42) (V m c main_v44) (V m c main_v52) 0 0 (gb t) (gi t i) j o := by
  have hM : (((View.ld (Val := Elt Ideal) (e' := .bf16) (iblk m c 1 t) rm00) : FVec Ideal S1x1x1x16x112 .bf16) (ix5 0 0 0 i j) : EReal) = (V m c main_v52 : FVec Ideal S2x2x2x112x112 .bf16) (ix5 (gb t) 0 0 (gi t i) j) :=
    (ld_rm00 _ i j).trans (blk1 m c t 0 0 i j)
  rw [ee_at, hM]
  unfold blend tsum tee see
  simp only [mm0, mm1, ld_rg00, ld_rg01, ld_rg11, blk2, blk3, blk4, blk5]
  rfl

theorem peo : ((k0_pay1 (k0_pay11 (k0_pay4 (F := Ideal) (View.ld (Val := Elt Ideal) (e' := .bf16) (iblk m c 0 t) (rx0 (grid0.coords t) 0)) (View.ld (Val := Elt Ideal) (e' := .bf16) (iblk m c 2 t) rg00)) (k0_pay5 (F := Ideal) (View.ld (Val := Elt Ideal) (e' := .bf16) (iblk m c 0 t) (rx1 (grid0.coords t) 0)) (View.ld (Val := Elt Ideal) (e' := .bf16) (iblk m c 3 t) rg01)) (View.ld (Val := Elt Ideal) (e' := .bf16) (iblk m c 1 t) rm01)) : FVec Ideal S1x16x112x96 .f32) (ix4 0 i j o) : EReal)
      = blend (V m c main_v49) (V m c main_v32) (V m c main_v37) (V m c main_v42) (V m c main_v44) (V m c main_v52) 0 1 (gb t) (gi t i) j o := by
  have hM : (((View.ld (Val := Elt Ideal) (e' := .bf16) (iblk m c 1 t) rm01) : FVec Ideal S1x1x1x16x112 .bf16) (ix5 0 0 0 i j) : EReal) = (V m c main_v52 : FVec Ideal S2x2x2x112x112 .bf16) (ix5 (gb t) 0 1 (gi t i) j) :=
    (ld_rm01 _ i j).trans (blk1 m c t 0 1 i j)
  rw [eo_at, hM]
  unfold blend tsum teo seo
  simp only [mm0, mm1, ld_rg00, ld_rg01, ld_rg11, blk2, blk3, blk4, blk5]
  rfl

theorem poe : ((k0_pay2 (k0_pay8 (k0_pay4 (F := Ideal) (View.ld (Val := Elt Ideal) (e' := .bf16) (iblk m c 0 t) (rx0 (grid0.coords t) 0)) (View.ld (Val := Elt Ideal) (e' := .bf16) (iblk m c 2 t) rg00)) (k0_pay6 (F := Ideal) (View.ld (Val := Elt Ideal) (e' := .bf16) (iblk m c 0 t) (rx0 (grid0.coords t) 1)) (View.ld (Val := Elt Ideal) (e' := .bf16) (iblk m c 4 t) rg01))) (View.ld (Val := Elt Ideal) (e' := .bf16) (iblk m c 1 t) rm10) : FVec Ideal S1x16x112x96 .f32) (ix4 0 i j o) : EReal)
      = blend (V m c main_v49) (V m c main_v32) (V m c main_v37) (V m c main_v42) (V m c main_v44) (V m c main_v52) 1 0 (gb t) (gi t i) j o := by
  have hM : (((View.ld (Val := Elt Ideal) (e' := .bf16) (iblk m c 1 t) rm10) : FVec Ideal S1x1x1x16x112 .bf16) (ix5 0 0 0 i j) : EReal) = (V m c main_v52 : FVec Ideal S2x2x2x112x112 .bf16) (ix5 (gb t) 1 0 (gi t i) j) :=
    (ld_rm10 _ i j).trans (blk1 m c t 1 0 i j)
  rw [oe_at, hM]
  unfold blend tsum toe soe
  simp only [mm0, mm1, ld_rg00, ld_rg01, ld_rg11, blk2, blk3, blk4, blk5]
  rfl

theorem poo : ((k0_pay3 (k0_pay9 (k0_pay4 (F := Ideal) (View.ld (Val := Elt Ideal) (e' := .bf16) (iblk m c 0 t) (rx0 (grid0.coords t) 0)) (View.ld (Val := Elt Ideal) (e' := .bf16) (iblk m c 2 t) rg00)) (k0_pay5 (F := Ideal) (View.ld (Val := Elt Ideal) (e' := .bf16) (iblk m c 0 t) (rx1 (grid0.coords t) 0)) (View.ld (Val := Elt Ideal) (e' := .bf16) (iblk m c 3 t) rg01)) (k0_pay6 (F := Ideal) (View.ld (Val := Elt Ideal) (e' := .bf16) (iblk m c 0 t) (rx0 (grid0.coords t) 1)) (View.ld (Val := Elt Ideal) (e' := .bf16) (iblk m c 4 t) rg01)) (k0_pay7 (View.ld (Val := Elt Ideal) (e' := .bf16) (iblk m c 0 t) (rx1 (grid0.coords t) 1))) (View.ld (Val := Elt Ideal) (e' := .bf16) (iblk m c 5 t) rg11)) (View.ld (Val := Elt Ideal) (e' := .bf16) (iblk m c 1 t) rm11) : FVec Ideal S1x16x112x96 .f32) (ix4 0 i j o) : EReal)
      = blend (V m c main_v49) (V m c main_v32) (V m c main_v37) (V m c main_v42) (V m c main_v44) (V m c main_v52) 1 1 (gb t) (gi t i) j o := by
  have hM : (((View.ld (Val := Elt Ideal) (e' := .bf16) (iblk m c 1 t) rm11) : FVec Ideal S1x1x1x16x112 .bf16) (ix5 0 0 0 i j) : EReal) = (V m c main_v52 : FVec Ideal S2x2x2x112x112 .bf16) (ix5 (gb t) 1 1 (gi t i) j) :=
    (ld_rm11 _ i j).trans (blk1 m c t 1 1 i j)
  rw [oo_at, hM]
  unfold blend tsum too soo
  simp only [mm0, mm1, ld_rg00, ld_rg01, ld_rg11, blk2, blk3, blk4, blk5]
  rfl

theorem G_blk (p q : Fin 2) (y : S1x32x224x96.Idx) (h1 : (y 1).val = 2 * i.val + p.val) (h2 : (y 2).val = 2 * j.val + q.val) (h3 : (y 3).val = o.val) :
    G (V m c main_v49) (V m c main_v32) (V m c main_v37) (V m c main_v42) (V m c main_v44) (V m c main_v52) (((cfg0.win 6).blk t).view.emb y) = blend (V m c main_v49) (V m c main_v32) (V m c main_v37) (V m c main_v42) (V m c main_v44) (V m c main_v52) p q (gb t) (gi t i) j o := by
  have h0 : (y 0).val < 1 := (y 0).isLt
  have hg : (gi t i).val = 16 * (grid0.coords t 1).val + i.val := rfl
  refine G_at _ _ _ _ _ _ p q (gb t) (gi t i) j o _ ?_ ?_ ?_ ?_
  all_goals (blk_simp [idx t] <;> try rw [hg]) <;> try omega

end

/-- The block the body leaves is the result's block. -/
theorem point (c : Dev nD) (t : Fin cfg0.N) (y) :
    out0_6 (grid0.coords t) (iblk m c 0 t) (iblk m c 1 t) (iblk m c 2 t) (iblk m c 3 t) (iblk m c 4 t) (iblk m c 5 t) y
      = G (V m c main_v49) (V m c main_v32) (V m c main_v37) (V m c main_v42) (V m c main_v44) (V m c main_v52) (((cfg0.win 6).blk t).view.emb y) := by
  canon_tiles x h using (cover0_6 _ _ _ _ y)
  · have hb : ∀ a, (y a).val = ro11.off a + ro11.stride a * (x a).val := fun a => by rw [← h]; exact Rect.emb_apply _ _ _
    obtain ⟨z, i, j, o, rfl⟩ : ∃ (z : Fin 1) (i : Fin 16) (j : Fin 112) (o : Fin 96), x = ix4 z i j o := ⟨x 0, x 1, x 2, x 3, (ix4_eta x).symm⟩
    obtain rfl : z = 0 := Subsingleton.elim _ _
    refine (poo m c t i j o).trans (G_blk m c t i j o 1 1 y ?_ ?_ ?_).symm
    · refine (hb 1).trans ?_; show 1 + 2 * i.val = 2 * i.val + 1; omega
    · refine (hb 2).trans ?_; show 1 + 2 * j.val = 2 * j.val + 1; omega
    · refine (hb 3).trans ?_; show 0 + 1 * o.val = o.val; omega
  · have hb : ∀ a, (y a).val = ro10.off a + ro10.stride a * (x a).val := fun a => by rw [← h]; exact Rect.emb_apply _ _ _
    obtain ⟨z, i, j, o, rfl⟩ : ∃ (z : Fin 1) (i : Fin 16) (j : Fin 112) (o : Fin 96), x = ix4 z i j o := ⟨x 0, x 1, x 2, x 3, (ix4_eta x).symm⟩
    obtain rfl : z = 0 := Subsingleton.elim _ _
    refine (poe m c t i j o).trans (G_blk m c t i j o 1 0 y ?_ ?_ ?_).symm
    · refine (hb 1).trans ?_; show 1 + 2 * i.val = 2 * i.val + 1; omega
    · refine (hb 2).trans ?_; show 0 + 2 * j.val = 2 * j.val + 0; omega
    · refine (hb 3).trans ?_; show 0 + 1 * o.val = o.val; omega
  · have hb : ∀ a, (y a).val = ro01.off a + ro01.stride a * (x a).val := fun a => by rw [← h]; exact Rect.emb_apply _ _ _
    obtain ⟨z, i, j, o, rfl⟩ : ∃ (z : Fin 1) (i : Fin 16) (j : Fin 112) (o : Fin 96), x = ix4 z i j o := ⟨x 0, x 1, x 2, x 3, (ix4_eta x).symm⟩
    obtain rfl : z = 0 := Subsingleton.elim _ _
    refine (peo m c t i j o).trans (G_blk m c t i j o 0 1 y ?_ ?_ ?_).symm
    · refine (hb 1).trans ?_; show 0 + 2 * i.val = 2 * i.val + 0; omega
    · refine (hb 2).trans ?_; show 1 + 2 * j.val = 2 * j.val + 1; omega
    · refine (hb 3).trans ?_; show 0 + 1 * o.val = o.val; omega
  · have hb : ∀ a, (y a).val = ro00.off a + ro00.stride a * (x a).val := fun a => by rw [← h]; exact Rect.emb_apply _ _ _
    obtain ⟨z, i, j, o, rfl⟩ : ∃ (z : Fin 1) (i : Fin 16) (j : Fin 112) (o : Fin 96), x = ix4 z i j o := ⟨x 0, x 1, x 2, x 3, (ix4_eta x).symm⟩
    obtain rfl : z = 0 := Subsingleton.elim _ _
    refine (pee m c t i j o).trans (G_blk m c t i j o 0 0 y ?_ ?_ ?_).symm
    · refine (hb 1).trans ?_; show 0 + 2 * i.val = 2 * i.val + 0; omega
    · refine (hb 2).trans ?_; show 0 + 2 * j.val = 2 * j.val + 0; omega
    · refine (hb 3).trans ?_; show 0 + 1 * o.val = o.val; omega

/-- The output window's array after the run. -/
theorem final (c : Dev nD) : (dats m 0 c).arrAt 6 (cfgs 0).N = G (V m c main_v49) (V m c main_v32) (V m c main_v37) (V m c main_v42) (V m c main_v44) (V m c main_v52) := by
  refine (dats m 0 c).arrAt_eq_of_covers 6 _ (by decide +kernel) fun t _ y => ?_
  blk_simp
  rw [after0_6]
  exact point m c t y

end Cert.KernelIdeal.Point

end
-- ==== Proof.Tail.lean ====
/- The result buffer after the launch and the host line behind it: the array the launch leaves, transposed. -/
module

public import proofs.«01_k».proof.Proof.Final

@[expose] public section

set_option maxRecDepth 16384

noncomputable section

namespace Cert.KernelIdeal.Tail

open Cert.KernelIdeal Cert.KernelIdeal.Gen Cert.KernelIdeal.Body
open Idealize.ShloMosaic Idealize.ShloMosaic.TcCoe Idealize.SL.Sem

variable (m : (ℓ : Loc nD τ sig) → Buf (Elt Ideal) ℓ)

theorem result (c : Dev nD) :
    Pipeline.afterTail₀ cfgs (dats m) 0 (V0 m) [hostOps1] c main_v54
      = transpose S2x96x224x224 [0, 3, 1, 2] ((dats m 0 c).arrAt 6 (cfgs 0).N) Facts₀.transposes_S2x224x224x96_S2x96x224x224_0_3_1_2 := by
  unfold Pipeline.afterTail₀
  have h : Pipeline.withArrays spec0 c (V0 m c) (fun w => (dats m 0 c).arrAt w (cfgs 0).N) (Proc.devRef .tc main_v53) = (dats m 0 c).arrAt 6 (cfgs 0).N :=
    Pipeline.withArrays_arr spec0 (by decide) c (V0 m c) (fun w => (dats m 0 c).arrAt w (cfgs 0).N) 6
  simp only [hostOps1, List.flatten_cons, List.flatten_nil, List.append_nil, StableHlo.after_cons, StableHlo.after_nil]
  refine (StableHlo.unary_result ..).trans ?_
  exact congrArg (transpose S2x96x224x224 [0, 3, 1, 2] · Facts₀.transposes_S2x224x224x96_S2x96x224x224_0_3_1_2) h

end Cert.KernelIdeal.Tail

end
-- ==== Proof.Pre.lean ====
/- What the precondition says at the exact real operations: six of the inputs are real numbers and the second mask is one
   minus the first. -/
module

public import proofs.«01_k».proof.Pre_inputs
public import proofs.«01_k».proof.Proof.Gen.Pre_inputs
public import Idealize.ShloMosaic.Lib.ReduceAll
public import Idealize.ShloMosaic.Lib.KernelVsHost
public import Idealize.ShloMosaic.Lib.Pointwise

@[expose] public section

set_option maxRecDepth 16384

noncomputable section

namespace Cert.Pre_inputs.Value

open Idealize.ShloMosaic Cert.Pre_inputs

instance : Subsingleton S_.Idx := ⟨fun a b => funext fun d => d.elim0⟩

/-- A value whose absolute value is below infinity is a real number. -/
theorem real_of_abs (x : EReal) (h : max x (-x) < ⊤) : x = ((x.toReal : ℝ) : EReal) := by
  rw [max_lt_iff] at h
  refine (EReal.coe_toReal h.1.ne ?_).symm
  rintro rfl
  exact absurd h.2 (by simp)

theorem inf_top : Ideal.ofBits .f32 0x7F800000#32 = ⊤ := by simp [Ideal.ofBits, Ideal.ieee]

theorem one_bits : Ideal.ofBits .f32 0x3F800000#32 = ((1 : ℝ) : EReal) := by
  simp only [Ideal.ofBits_one_f32, EReal.coe_one]

/-- An array all of whose absolute values compare below infinity holds real numbers. -/
theorem real_of_all {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant (F := Ideal) S_ .f32 0x7F800000#32))) (constantI S_ 1 1#1) hr hu j = 1#1)
    (i : s.Idx) : (a i : EReal) = (((a i : EReal).toReal : ℝ) : EReal) := by
  refine real_of_abs _ ?_
  have h := Host.reduce_andi_all _ _ _ _ j e i
  have h' : Ideal.cmp .olt (max (a i : EReal) (-(a i : EReal))) (Ideal.ofBits .f32 0x7F800000#32) = 1 := h
  rw [inf_top] at h'
  exact (Ideal.cmp_olt_eq_one _ _).1 h'

/-- The precondition read: real inputs, and complementary masks. -/
theorem read (a0 : FVec Ideal S2x96x112x112 .f32) (a1 a2 : FVec Ideal S2x1x224x224 .f32) (a3 : FVec Ideal S96x96x3x3 .f32) (a4 : FVec Ideal S96 .f32)
    (a5 : FVec Ideal S24x96x1x1 .f32) (a6 : FVec Ideal S24 .f32) (a7 : FVec Ideal S24x96x3x3 .f32) (a8 : FVec Ideal S96 .f32)
    (h : fn (F := Ideal) a0 a1 a2 a3 a4 a5 a6 a7 a8 = fun _ => 1#1) :
    (∀ i, (a0 i : EReal) = (((a0 i : EReal).toReal : ℝ) : EReal)) ∧ (∀ i, (a1 i : EReal) = (((a1 i : EReal).toReal : ℝ) : EReal))
    ∧ (∀ i, (a2 i : EReal) = ((1 - (a1 i : EReal).toReal : ℝ) : EReal)) ∧ (∀ i, (a5 i : EReal) = (((a5 i : EReal).toReal : ℝ) : EReal))
    ∧ (∀ i, (a6 i : EReal) = (((a6 i : EReal).toReal : ℝ) : EReal)) ∧ (∀ i, (a7 i : EReal) = (((a7 i : EReal).toReal : ℝ) : EReal))
    ∧ (∀ i, (a8 i : EReal) = (((a8 i : EReal).toReal : ℝ) : EReal)) := by
  have e := congrFun h (Shape.Idx.first Facts.h_S_)
  unfold fn fn_part1 at e
  simp only [andi_apply, IntOp.andi_eq_one] at e
  obtain ⟨⟨⟨⟨⟨⟨e2, e0⟩, e1⟩, e5⟩, e6⟩, e7⟩, e8⟩ := e
  have r1 := real_of_all a1 _ _ _ _ e1
  refine ⟨real_of_all a0 _ _ _ _ e0, r1, fun i => ?_, real_of_all a5 _ _ _ _ e5, real_of_all a6 _ _ _ _ e6, real_of_all a7 _ _ _ _ e7, real_of_all a8 _ _ _ _ e8⟩
  have h2 := Host.reduce_andi_all _ _ _ _ _ e2 i
  have h3 : Ideal.cmp .oeq (a2 i : EReal) (Ideal.ofBits .f32 0x3F800000#32 - (a1 i : EReal)) = 1 := h2
  rw [Ideal.cmp_oeq_eq_one, one_bits] at h3
  refine h3.trans ?_
  rw [EReal.coe_sub, ← r1 i]

end Cert.Pre_inputs.Value

end
-- ==== Proof.Alg.lean ====
/- The value claim: over the exact reals the kernel and the reference return the same array. -/
module

public import proofs.«01_k».proof.Defs
public import proofs.«01_k».proof.Proof.Body.KernelIdeal
public import proofs.«01_k».proof.Proof.Gen.KernelIdeal
public import proofs.«01_k».proof.Proof.Gen.ReferenceIdeal
public import proofs.«01_k».proof.Proof.Gen.Pre_inputs
public import proofs.«01_k».proof.Proof.Equation
public import proofs.«01_k».proof.Proof.Tail
public import proofs.«01_k».proof.Proof.Pre
public import Idealize.ShloMosaic.Lib.Claim

@[expose] public section

set_option maxRecDepth 16384

noncomputable section

namespace Cert.Proof

open Idealize.ShloMosaic Idealize.ShloMosaic.TcCoe Idealize.SL.Sem

/-- Under the precondition the kernel's result buffer holds the reference's value of the same arguments. -/
theorem result_eq (m : (ℓ : Loc Cert.KernelIdeal.nD Cert.KernelIdeal.τ Cert.KernelIdeal.sig) → Buf (Elt Ideal) ℓ) (c : Dev Cert.KernelIdeal.nD)
    (h : Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = fun _ => 1#1) :
    Pipeline.afterTail₀ Cert.KernelIdeal.cfgs (Cert.KernelIdeal.Body.dats m) 0 (Cert.KernelIdeal.Gen.V0 m) [Cert.KernelIdeal.Gen.hostOps1] c Cert.KernelIdeal.main_v54
      = Cert.ReferenceIdeal.Value.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) := by
  obtain ⟨h0, h1, h2, h5, h6, h7, h8⟩ := Cert.Pre_inputs.Value.read _ _ _ _ _ _ _ _ _ h
  rw [Cert.KernelIdeal.Tail.result, Cert.KernelIdeal.Point.final]
  rw [Cert.KernelIdeal.Host.V_v49, Cert.KernelIdeal.Host.V_v32, Cert.KernelIdeal.Host.V_v37, Cert.KernelIdeal.Host.V_v42, Cert.KernelIdeal.Host.V_v44, Cert.KernelIdeal.Host.V_v52]
  funext y
  have hy : y = ix4 (y 0) (y 1) (y 2) (y 3) := by
    funext d; fin_cases d <;> rfl
  rw [hy]
  refine Eq.trans ?_ (Cert.Equation.G_eq _ _ _ _ _ _ _ _ _ _ _ _ h0 h5 h6 h7 h8 _ _ _ h1 h2 (y 0) (y 1) (y 2) (y 3))
  refine congrArg (Cert.KernelIdeal.Point.G _ _ _ _ _ _) ?_
  funext d; fin_cases d <;> rfl

set_option maxHeartbeats 1600000 in
theorem algebraic : Cert.algebraic_KernelIdeal_ReferenceIdeal_pre_inputs := by
  pair_intro
  · run_from Cert.KernelIdeal.Body.run_main m g
    all_goals first | exact Cert.KernelIdeal.Gen.W_main_arg0 m _ c | exact Cert.KernelIdeal.Gen.W_main_arg1 m _ c | exact Cert.KernelIdeal.Gen.W_main_arg2 m _ c | exact Cert.KernelIdeal.Gen.W_main_arg3 m _ c | exact Cert.KernelIdeal.Gen.W_main_arg4 m _ c | exact Cert.KernelIdeal.Gen.W_main_arg5 m _ c | exact Cert.KernelIdeal.Gen.W_main_arg6 m _ c | exact Cert.KernelIdeal.Gen.W_main_arg7 m _ c | exact Cert.KernelIdeal.Gen.W_main_arg8 m _ c
  · hlo_run
    refine Eq.trans ?_ (result_eq m c (hpre c)).symm
    rfl

end Cert.Proof

end
-- ==== Proof.lean ====
/- The certificate: the frames, the idealization and the value claim together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_inputs
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_inputs.Gen.facts,
  frame_Kernel, frame_KernelIdeal, fun m g _ => frame_KernelIdeal m g trivial, frame_ReferenceIdeal, fun m g _ => frame_ReferenceIdeal m g trivial, trivial,
  algebraic⟩

end Cert.Proof

end
